-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_are_normal [hPre_scales_are_normal : Cert.Pre_scales_are_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_are_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_are_normal [hPre_scales_are_normal : Cert.Pre_scales_are_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_are_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_are_normal [hKernelIdeal : Cert.KernelIdeal.Facts] [hPre_scales_are_normal : Cert.Pre_scales_are_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_are_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_are_normal [hReferenceIdeal : Cert.ReferenceIdeal.Facts] [hPre_scales_are_normal : Cert.Pre_scales_are_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_are_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scales_are_normal [hKernelIdeal : Cert.KernelIdeal.Facts] [hReferenceIdeal : Cert.ReferenceIdeal.Facts] [hPre_scales_are_normal : Cert.Pre_scales_are_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_are_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43_0) = v0 c
          ∧ r.2.mem ((c.tc : Thread Cert.ReferenceIdeal.nD Cert.ReferenceIdeal.τ).loc Cert.ReferenceIdeal.main_v43_1) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_are_normal : Cert.Pre_scales_are_normal.Facts),
    quiescent_Kernel (hKernel := hKernel)
    ∧ quiescent_KernelIdeal (hKernelIdeal := hKernelIdeal)
    ∧ quiescent_KernelIdeal_pre_scales_are_normal (hKernelIdeal := hKernelIdeal) (hPre_scales_are_normal := hPre_scales_are_normal)
    ∧ quiescent_ReferenceIdeal (hReferenceIdeal := hReferenceIdeal)
    ∧ quiescent_ReferenceIdeal_pre_scales_are_normal (hReferenceIdeal := hReferenceIdeal) (hPre_scales_are_normal := hPre_scales_are_normal)
    ∧ preserves_Kernel_KernelIdeal
    ∧ algebraic_KernelIdeal_ReferenceIdeal_pre_scales_are_normal (hKernelIdeal := hKernelIdeal) (hReferenceIdeal := hReferenceIdeal) (hPre_scales_are_normal := hPre_scales_are_normal)
-- ==== Pre_scales_are_normal.lean ====
abbrev S8x2048x1408 : Shape := ⟨3, ![8, 2048, 1408]⟩
abbrev S1408x2688 : Shape := ⟨2, ![1408, 2688]⟩
abbrev S2688 : Shape := ⟨1, ![2688]⟩
abbrev S2x2 : Shape := ⟨2, ![2, 2]⟩
abbrev S16384x11x128 : Shape := ⟨3, ![16384, 11, 128]⟩
abbrev S16384x11x128x1 : Shape := ⟨4, ![16384, 11, 128, 1]⟩
abbrev S_ : Shape := ⟨0, ![]⟩
abbrev S1x1 : Shape := ⟨2, ![1, 1]⟩
abbrev S1x1x1x1 : Shape := ⟨4, ![1, 1, 1, 1]⟩
abbrev S1x2x1x2 : Shape := ⟨4, ![1, 2, 1, 2]⟩
abbrev S2x1x2x1 : Shape := ⟨4, ![2, 1, 2, 1]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S1x1x128x128 : Shape := ⟨4, ![1, 1, 128, 128]⟩
abbrev S16384x11x128x128 : Shape := ⟨4, ![16384, 11, 128, 128]⟩
abbrev S16384x11 : Shape := ⟨2, ![16384, 11]⟩

class Facts : Prop where
  bitsLt_bf16_f32 : FTy.bits .bf16 < FTy.bits .f32
  shapeCasts_S8x2048x1408_S16384x11x128 : S8x2048x1408.ShapeCasts S16384x11x128
  bcast_S16384x11x128_S16384x11x128x1_0_1_2 : S16384x11x128.BroadcastsInDim S16384x11x128x1 (![0, 1, 2] : Fin 3 → Fin S16384x11x128x1.rank)
  bcast_S_S1x1 : S_.BroadcastsInDim S1x1 (![] : Fin 0 → Fin S1x1.rank)
  bcast_S1x1_S1x1x1x1_0_2 : S1x1.BroadcastsInDim S1x1x1x1 (![0, 2] : Fin 2 → Fin S1x1x1x1.rank)
  bcast_S2x2_S1x2x1x2_1_3 : S2x2.BroadcastsInDim S1x2x1x2 (![1, 3] : Fin 2 → Fin S1x2x1x2.rank)
  bcast_S1x1x1x1_S1x2x1x2_0_1_2_3 : S1x1x1x1.BroadcastsInDim S1x2x1x2 (![0, 1, 2, 3] : Fin 4 → Fin S1x2x1x2.rank)
  shapeCasts_S1x2x1x2_S2x2 : S1x2x1x2.ShapeCasts S2x2
  bcast_S2x2_S2x1x2x1_0_2 : S2x2.BroadcastsInDim S2x1x2x1 (![0, 2] : Fin 2 → Fin S2x1x2x1.rank)
  bcast_S2x1x2x1_S2x2x2x2_0_1_2_3 : S2x1x2x1.BroadcastsInDim S2x2x2x2 (![0, 1, 2, 3] : Fin 4 → Fin S2x2x2x2.rank)
  bcast_S1x2x1x2_S2x2x2x2_0_1_2_3 : S1x2x1x2.BroadcastsInDim S2x2x2x2 (![0, 1, 2, 3] : Fin 4 → Fin S2x2x2x2.rank)
  shapeCasts_S2x2x2x2_S4x4 : S2x2x2x2.ShapeCasts S4x4
  bcast_S4x4_S4x1x4x1_0_2 : S4x4.BroadcastsInDim S4x1x4x1 (![0, 2] : Fin 2 → Fin S4x1x4x1.rank)
  bcast_S4x1x4x1_S4x2x4x2_0_1_2_3 : S4x1x4x1.BroadcastsInDim S4x2x4x2 (![0, 1, 2, 3] : Fin 4 → Fin S4x2x4x2.rank)
  bcast_S1x2x1x2_S4x2x4x2_0_1_2_3 : S1x2x1x2.BroadcastsInDim S4x2x4x2 (![0, 1, 2, 3] : Fin 4 → Fin S4x2x4x2.rank)
  shapeCasts_S4x2x4x2_S8x8 : S4x2x4x2.ShapeCasts S8x8
  bcast_S8x8_S8x1x8x1_0_2 : S8x8.BroadcastsInDim S8x1x8x1 (![0, 2] : Fin 2 → Fin S8x1x8x1.rank)
  bcast_S8x1x8x1_S8x2x8x2_0_1_2_3 : S8x1x8x1.BroadcastsInDim S8x2x8x2 (![0, 1, 2, 3] : Fin 4 → Fin S8x2x8x2.rank)
  bcast_S1x2x1x2_S8x2x8x2_0_1_2_3 : S1x2x1x2.BroadcastsInDim S8x2x8x2 (![0, 1, 2, 3] : Fin 4 → Fin S8x2x8x2.rank)
  shapeCasts_S8x2x8x2_S16x16 : S8x2x8x2.ShapeCasts S16x16
  bcast_S16x16_S16x1x16x1_0_2 : S16x16.BroadcastsInDim S16x1x16x1 (![0, 2] : Fin 2 → Fin S16x1x16x1.rank)
  bcast_S16x1x16x1_S16x2x16x2_0_1_2_3 : S16x1x16x1.BroadcastsInDim S16x2x16x2 (![0, 1, 2, 3] : Fin 4 → Fin S16x2x16x2.rank)
  bcast_S1x2x1x2_S16x2x16x2_0_1_2_3 : S1x2x1x2.BroadcastsInDim S16x2x16x2 (![0, 1, 2, 3] : Fin 4 → Fin S16x2x16x2.rank)
  shapeCasts_S16x2x16x2_S32x32 : S16x2x16x2.ShapeCasts S32x32
  bcast_S32x32_S32x1x32x1_0_2 : S32x32.BroadcastsInDim S32x1x32x1 (![0, 2] : Fin 2 → Fin S32x1x32x1.rank)
  bcast_S32x1x32x1_S32x2x32x2_0_1_2_3 : S32x1x32x1.BroadcastsInDim S32x2x32x2 (![0, 1, 2, 3] : Fin 4 → Fin S32x2x32x2.rank)
  bcast_S1x2x1x2_S32x2x32x2_0_1_2_3 : S1x2x1x2.BroadcastsInDim S32x2x32x2 (![0, 1, 2, 3] : Fin 4 → Fin S32x2x32x2.rank)
  shapeCasts_S32x2x32x2_S64x64 : S32x2x32x2.ShapeCasts S64x64
  bcast_S64x64_S64x1x64x1_0_2 : S64x64.BroadcastsInDim S64x1x64x1 (![0, 2] : Fin 2 → Fin S64x1x64x1.rank)
  bcast_S64x1x64x1_S64x2x64x2_0_1_2_3 : S64x1x64x1.BroadcastsInDim S64x2x64x2 (![0, 1, 2, 3] : Fin 4 → Fin S64x2x64x2.rank)
  bcast_S1x2x1x2_S64x2x64x2_0_1_2_3 : S1x2x1x2.BroadcastsInDim S64x2x64x2 (![0, 1, 2, 3] : Fin 4 → Fin S64x2x64x2.rank)
  shapeCasts_S64x2x64x2_S128x128 : S64x2x64x2.ShapeCasts S128x128
  bcast_S_S128x128 : S_.BroadcastsInDim S128x128 (![] : Fin 0 → Fin S128x128.rank)
  bcast_S128x128_S1x1x128x128_2_3 : S128x128.BroadcastsInDim S1x1x128x128 (![2, 3] : Fin 2 → Fin S1x1x128x128.rank)
  bcast_S16384x11x128x1_S16384x11x128x128_0_1_2_3 : S16384x11x128x1.BroadcastsInDim S16384x11x128x128 (![0, 1, 2, 3] : Fin 4 → Fin S16384x11x128x128.rank)
  bcast_S1x1x128x128_S16384x11x128x128_0_1_2_3 : S1x1x128x128.BroadcastsInDim S16384x11x128x128 (![0, 1, 2, 3] : Fin 4 → Fin S16384x11x128x128.rank)
  reducesTo_S16384x11x128x128_S16384x11x128_d2 : S16384x11x128x128.ReducesTo [2] S16384x11x128
  h_S_ : 0 < S_.numel
  reducesTo_S16384x11x128_S16384x11_d2 : S16384x11x128.ReducesTo [2] S16384x11
  bcast_S_S16384x11 : S_.BroadcastsInDim S16384x11 (![] : Fin 0 → Fin S16384x11.rank)

variable [Facts]

noncomputable abbrev lit0 : Fin 4 → BitVec 32 := fun
  | 0 => 0x3F800000#32 | 1 => 0x3F800000#32 | 2 => 0x3F800000#32 | 3 => 0xBF800000#32
  | _ => 0#32

def fn_kron {F : FTy → Type} [FloatOps F] (arg0 : FVec F S1x1 .f32) (arg1 : FVec F S2x2 .f32) : FVec F S2x2 .f32 :=
  let v0 : FVec F S1x1x1x1 .f32 := broadcastInDim S1x1x1x1 ![0, 2] bcast_S1x1_S1x1x1x1_0_2 arg0
  let v1 : FVec F S1x2x1x2 .f32 := broadcastInDim S1x2x1x2 ![1, 3] bcast_S2x2_S1x2x1x2_1_3 arg1
  let v2 : FVec F S1x2x1x2 .f32 := broadcastInDim S1x2x1x2 ![0, 1, 2, 3] bcast_S1x1x1x1_S1x2x1x2_0_1_2_3 v0
  let v3 : FVec F S1x2x1x2 .f32 := mulf v2 v1
  let v4 : FVec F S2x2 .f32 := shapeCast S2x2 v3 shapeCasts_S1x2x1x2_S2x2
  v4

def fn_kron_0 {F : FTy → Type} [FloatOps F] (arg0 : FVec F S2x2 .f32) (arg1 : FVec F S2x2 .f32) : FVec F S4x4 .f32 :=
  let v0 : FVec F S2x1x2x1 .f32 := broadcastInDim S2x1x2x1 ![0, 2] bcast_S2x2_S2x1x2x1_0_2 arg0
  let v1 : FVec F S1x2x1x2 .f32 := broadcastInDim S1x2x1x2 ![1, 3] bcast_S2x2_S1x2x1x2_1_3 arg1
  let v2 : FVec F S2x2x2x2 .f32 := broadcastInDim S2x2x2x2 ![0, 1, 2, 3] bcast_S2x1x2x1_S2x2x2x2_0_1_2_3 v0
  let v3 : FVec F S2x2x2x2 .f32 := broadcastInDim S2x2x2x2 ![0, 1, 2, 3] bcast_S1x2x1x2_S2x2x2x2_0_1_2_3 v1
  let v4 : FVec F S2x2x2x2 .f32 := mulf v2 v3
  let v5 : FVec F S4x4 .f32 := shapeCast S4x4 v4 shapeCasts_S2x2x2x2_S4x4
  v5

def fn_kron_1 {F : FTy → Type} [FloatOps F] (arg0 : FVec F S4x4 .f32) (arg1 : FVec F S2x2 .f32) : FVec F S8x8 .f32 :=
  let v0 : FVec F S4x1x4x1 .f32 := broadcastInDim S4x1x4x1 ![0, 2] bcast_S4x4_S4x1x4x1_0_2 arg0
  let v1 : FVec F S1x2x1x2 .f32 := broadcastInDim S1x2x1x2 ![1, 3] bcast_S2x2_S1x2x1x2_1_3 arg1
  let v2 : FVec F S4x2x4x2 .f32 := broadcastInDim S4x2x4x2 ![0, 1, 2, 3] bcast_S4x1x4x1_S4x2x4x2_0_1_2_3 v0
  let v3 : FVec F S4x2x4x2 .f32 := broadcastInDim S4x2x4x2 ![0, 1, 2, 3] bcast_S1x2x1x2_S4x2x4x2_0_1_2_3 v1
  let v4 : FVec F S4x2x4x2 .f32 := mulf v2 v3
  let v5 : FVec F S8x8 .f32 := shapeCast S8x8 v4 shapeCasts_S4x2x4x2_S8x8
  v5

def fn_kron_2 {F : FTy → Type} [FloatOps F] (arg0 : FVec F S8x8 .f32) (arg1 : FVec F S2x2 .f32) : FVec F S16x16 .f32 :=
  let v0 : FVec F S8x1x8x1 .f32 := broadcastInDim S8x1x8x1 ![0, 2] bcast_S8x8_S8x1x8x1_0_2 arg0
  let v1 : FVec F S1x2x1x2 .f32 := broadcastInDim S1x2x1x2 ![1, 3] bcast_S2x2_S1x2x1x2_1_3 arg1
  let v2 : FVec F S8x2x8x2 .f32 := broadcastInDim S8x2x8x2 ![0, 1, 2, 3] bcast_S8x1x8x1_S8x2x8x2_0_1_2_3 v0
  let v3 : FVec F S8x2x8x2 .f32 := broadcastInDim S8x2x8x2 ![0, 1, 2, 3] bcast_S1x2x1x2_S8x2x8x2_0_1_2_3 v1
  let v4 : FVec F S8x2x8x2 .f32 := mulf v2 v3
  let v5 : FVec F S16x16 .f32 := shapeCast S16x16 v4 shapeCasts_S8x2x8x2_S16x16
  v5

def fn_kron_3 {F : FTy → Type} [FloatOps F] (arg0 : FVec F S16x16 .f32) (arg1 : FVec F S2x2 .f32) : FVec F S32x32 .f32 :=
  let v0 : FVec F S16x1x16x1 .f32 := broadcastInDim S16x1x16x1 ![0, 2] bcast_S16x16_S16x1x16x1_0_2 arg0
  let v1 : FVec F S1x2x1x2 .f32 := broadcastInDim S1x2x1x2 ![1, 3] bcast_S2x2_S1x2x1x2_1_3 arg1
  let v2 : FVec F S16x2x16x2 .f32 := broadcastInDim S16x2x16x2 ![0, 1, 2, 3] bcast_S16x1x16x1_S16x2x16x2_0_1_2_3 v0
  let v3 : FVec F S16x2x16x2 .f32 := broadcastInDim S16x2x16x2 ![0, 1, 2, 3] bcast_S1x2x1x2_S16x2x16x2_0_1_2_3 v1
  let v4 : FVec F S16x2x16x2 .f32 := mulf v2 v3
  let v5 : FVec F S32x32 .f32 := shapeCast S32x32 v4 shapeCasts_S16x2x16x2_S32x32
  v5

def fn_kron_4 {F : FTy → Type} [FloatOps F] (arg0 : FVec F S32x32 .f32) (arg1 : FVec F S2x2 .f32) : FVec F S64x64 .f32 :=
  let v0 : FVec F S32x1x32x1 .f32 := broadcastInDim S32x1x32x1 ![0, 2] bcast_S32x32_S32x1x32x1_0_2 arg0
  let v1 : FVec F S1x2x1x2 .f32 := broadcastInDim S1x2x1x2 ![1, 3] bcast_S2x2_S1x2x1x2_1_3 arg1
  let v2 : FVec F S32x2x32x2 .f32 := broadcastInDim S32x2x32x2 ![0, 1, 2, 3] bcast_S32x1x32x1_S32x2x32x2_0_1_2_3 v0
  let v3 : FVec F S32x2x32x2 .f32 := broadcastInDim S32x2x32x2 ![0, 1, 2, 3] bcast_S1x2x1x2_S32x2x32x2_0_1_2_3 v1
  let v4 : FVec F S32x2x32x2 .f32 := mulf v2 v3
  let v5 : FVec F S64x64 .f32 := shapeCast S64x64 v4 shapeCasts_S32x2x32x2_S64x64
  v5

def fn_kron_5 {F : FTy → Type} [FloatOps F] (arg0 : FVec F S64x64 .f32) (arg1 : FVec F S2x2 .f32) : FVec F S128x128 .f32 :=
  let v0 : FVec F S64x1x64x1 .f32 := broadcastInDim S64x1x64x1 ![0, 2] bcast_S64x64_S64x1x64x1_0_2 arg0
  let v1 : FVec F S1x2x1x2 .f32 := broadcastInDim S1x2x1x2 ![1, 3] bcast_S2x2_S1x2x1x2_1_3 arg1
  let v2 : FVec F S64x2x64x2 .f32 := broadcastInDim S64x2x64x2 ![0, 1, 2, 3] bcast_S64x1x64x1_S64x2x64x2_0_1_2_3 v0
  let v3 : FVec F S64x2x64x2 .f32 := broadcastInDim S64x2x64x2 ![0, 1, 2, 3] bcast_S1x2x1x2_S64x2x64x2_0_1_2_3 v1
  let v4 : FVec F S64x2x64x2 .f32 := mulf v2 v3
  let v5 : FVec F S128x128 .f32 := shapeCast S128x128 v4 shapeCasts_S64x2x64x2_S128x128
  v5

def fn_part1 {F : FTy → Type} [FloatOps F] (main_v18 : FVec F S16384x11x128 .f32) (main_cst_3 : FVec F S_ .f32) : IVec S16384x11 1 :=
  let main_v19 : FVec F S16384x11 .f32 := (fun x v => Host.reduce FloatOps.maximumf x v reducesTo_S16384x11x128_S16384x11_d2 h_S_) main_v18 main_cst_3
  let main_cst_4 : FVec F S_ .f32 := constant S_ .f32 0x3B124925#32
  let main_v20 : FVec F S16384x11 .f32 := broadcastInDim S16384x11 ![] bcast_S_S16384x11 main_cst_4
  let main_v21 : FVec F S16384x11 .f32 := mulf main_v19 main_v20
  let main_cst_5 : FVec F S_ .f32 := constant S_ .f32 0x00000000#32
  let main_v22 : FVec F S16384x11 .f32 := broadcastInDim S16384x11 ![] bcast_S_S16384x11 main_cst_5
  let main_v23 : IVec S16384x11 1 := cmpf .oeq main_v21 main_v22
  let main_cst_6 : FVec F S_ .f32 := constant S_ .f32 0x00400000#32
  let main_v24 : FVec F S16384x11 .f32 := broadcastInDim S16384x11 ![] bcast_S_S16384x11 main_cst_6
  let main_v25 : IVec S16384x11 1 := cmpf .oge main_v21 main_v24
  let main_cst_7 : FVec F S_ .f32 := constant S_ .f32 0x7E800000#32
  let main_v26 : FVec F S16384x11 .f32 := broadcastInDim S16384x11 ![] bcast_S_S16384x11 main_cst_7
  let main_v27 : IVec S16384x11 1 := cmpf .olt main_v21 main_v26
  let main_v28 : IVec S16384x11 1 := andi main_v25 main_v27
  let main_v29 : IVec S16384x11 1 := ori main_v23 main_v28
  main_v29

def fn {F : FTy → Type} [FloatOps F] (main_arg0 : FVec F S8x2048x1408 .bf16) (main_arg1 : FVec F S1408x2688 .fp8e4m3) (main_arg2 : FVec F S2688 .f32) : IVec S16384x11 1 :=
  let main_cst : FVec F S2x2 .f32 := fun i => FloatOps.ofBits .f32 (lit0 (S2x2.rowMajor i))
  let main_v0 : FVec F S8x2048x1408 .f32 := (extf .f32 · bitsLt_bf16_f32) main_arg0
  let main_v1 : FVec F S16384x11x128 .f32 := shapeCast S16384x11x128 main_v0 shapeCasts_S8x2048x1408_S16384x11x128
  let main_v2 : FVec F S16384x11x128x1 .f32 := broadcastInDim S16384x11x128x1 ![0, 1, 2] bcast_S16384x11x128_S16384x11x128x1_0_1_2 main_v1
  let main_cst_0 : FVec F S_ .f32 := constant S_ .f32 0x3F800000#32
  let main_v3 : FVec F S1x1 .f32 := broadcastInDim S1x1 ![] bcast_S_S1x1 main_cst_0
  let main_v4 : FVec F S2x2 .f32 := fn_kron (F := F) main_v3 main_cst
  let main_v5 : FVec F S4x4 .f32 := fn_kron_0 (F := F) main_v4 main_cst
  let main_v6 : FVec F S8x8 .f32 := fn_kron_1 (F := F) main_v5 main_cst
  let main_v7 : FVec F S16x16 .f32 := fn_kron_2 (F := F) main_v6 main_cst
  let main_v8 : FVec F S32x32 .f32 := fn_kron_3 (F := F) main_v7 main_cst
  let main_v9 : FVec F S64x64 .f32 := fn_kron_4 (F := F) main_v8 main_cst
  let main_v10 : FVec F S128x128 .f32 := fn_kron_5 (F := F) main_v9 main_cst
  let main_cst_1 : FVec F S_ .f32 := constant S_ .f32 0x3DB504F3#32
  let main_v11 : FVec F S128x128 .f32 := broadcastInDim S128x128 ![] bcast_S_S128x128 main_cst_1
  let main_v12 : FVec F S128x128 .f32 := mulf main_v10 main_v11
  let main_v13 : FVec F S1x1x128x128 .f32 := broadcastInDim S1x1x128x128 ![2, 3] bcast_S128x128_S1x1x128x128_2_3 main_v12
  let main_v14 : FVec F S16384x11x128x128 .f32 := broadcastInDim S16384x11x128x128 ![0, 1, 2, 3] bcast_S16384x11x128x1_S16384x11x128x128_0_1_2_3 main_v2
  let main_v15 : FVec F S16384x11x128x128 .f32 := broadcastInDim S16384x11x128x128 ![0, 1, 2, 3] bcast_S1x1x128x128_S16384x11x128x128_0_1_2_3 main_v13
  let main_v16 : FVec F S16384x11x128x128 .f32 := mulf main_v14 main_v15
  let main_cst_2 : FVec F S_ .f32 := constant S_ .f32 0x00000000#32
  let main_v17 : FVec F S16384x11x128 .f32 := (fun x v => Host.reduceAdd x v reducesTo_S16384x11x128x128_S16384x11x128_d2 h_S_) main_v16 main_cst_2
  let main_v18 : FVec F S16384x11x128 .f32 := Host.absf main_v17
  let main_cst_3 : FVec F S_ .f32 := constant S_ .f32 0xFF800000#32
  fn_part1 (F := F) main_v18 main_cst_3
-- ==== Kernel.lean ====
abbrev S8x2048x1408 : Shape := ⟨3, ![8, 2048, 1408]⟩
abbrev S1408x2688 : Shape := ⟨2, ![1408, 2688]⟩
abbrev S2688 : Shape := ⟨1, ![2688]⟩
abbrev S16384x1408 : Shape := ⟨2, ![16384, 1408]⟩
abbrev S1x2688 : Shape := ⟨2, ![1, 2688]⟩
abbrev S16384x2688 : Shape := ⟨2, ![16384, 2688]⟩
abbrev S16384x11 : Shape := ⟨2, ![16384, 11]⟩
abbrev S512x1408 : Shape := ⟨2, ![512, 1408]⟩
abbrev S512x2688 : Shape := ⟨2, ![512, 2688]⟩
abbrev S512x11 : Shape := ⟨2, ![512, 11]⟩
abbrev S256x256 : Shape := ⟨2, ![256, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S128x128 : Shape := ⟨2, ![128, 128]⟩

abbrev nBuf : Space → Nat
  | .hbm => 8
  | .vmem => 13
  | .smem => 0
  | _ => 0

abbrev bufTy : (tb : Table) → Fin (tcTables nBuf tb) → BufTy
  | .hbm, ⟨0, _⟩ => ⟨S8x2048x1408, .bf16⟩
  | .hbm, ⟨1, _⟩ => ⟨S1408x2688, .fp8e4m3⟩
  | .hbm, ⟨2, _⟩ => ⟨S2688, .f32⟩
  | .hbm, ⟨3, _⟩ => ⟨S16384x1408, .bf16⟩
  | .hbm, ⟨4, _⟩ => ⟨S1x2688, .f32⟩
  | .hbm, ⟨5, _⟩ => ⟨S16384x2688, .bf16⟩
  | .hbm, ⟨6, _⟩ => ⟨S16384x1408, .fp8e4m3⟩
  | .hbm, ⟨7, _⟩ => ⟨S16384x11, .f32⟩
  | .local _ .vmem, ⟨0, _⟩ => ⟨S512x1408, .bf16⟩
  | .local _ .vmem, ⟨1, _⟩ => ⟨S512x1408, .bf16⟩
  | .local _ .vmem, ⟨2, _⟩ => ⟨S1408x2688, .fp8e4m3⟩
  | .local _ .vmem, ⟨3, _⟩ => ⟨S1x2688, .f32⟩
  | .local _ .vmem, ⟨4, _⟩ => ⟨S512x2688, .bf16⟩
  | .local _ .vmem, ⟨5, _⟩ => ⟨S512x2688, .bf16⟩
  | .local _ .vmem, ⟨6, _⟩ => ⟨S512x1408, .fp8e4m3⟩
  | .local _ .vmem, ⟨7, _⟩ => ⟨S512x1408, .fp8e4m3⟩
  | .local _ .vmem, ⟨8, _⟩ => ⟨S512x11, .f32⟩
  | .local _ .vmem, ⟨9, _⟩ => ⟨S512x11, .f32⟩
  | .local _ .vmem, ⟨10, _⟩ => ⟨S1408x2688, .bf16⟩
  | .local _ .vmem, ⟨11, _⟩ => ⟨S256x256, .bf16⟩
  | .local _ .vmem, ⟨12, _⟩ => ⟨S512x1408, .bf16⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1408x2688 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2688 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x11 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x2048x1408 : Shape := ⟨3, ![8, 2048, 1408]⟩
abbrev S1408x2688 : Shape := ⟨2, ![1408, 2688]⟩
abbrev S2688 : Shape := ⟨1, ![2688]⟩
abbrev S2x2 : Shape := ⟨2, ![2, 2]⟩
abbrev S16384x11x128 : Shape := ⟨3, ![16384, 11, 128]⟩
abbrev S_ : Shape := ⟨0, ![]⟩
abbrev S1x1 : Shape := ⟨2, ![1, 1]⟩
abbrev S1x1x1x1 : Shape := ⟨4, ![1, 1, 1, 1]⟩
abbrev S1x2x1x2 : Shape := ⟨4, ![1, 2, 1, 2]⟩
abbrev S2x1x2x1 : Shape := ⟨4, ![2, 1, 2, 1]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S16384x11 : Shape := ⟨2, ![16384, 11]⟩
abbrev S16384x11x1 : Shape := ⟨3, ![16384, 11, 1]⟩
abbrev S16384x1408 : Shape := ⟨2, ![16384, 1408]⟩
abbrev S1x2688 : Shape := ⟨2, ![1, 2688]⟩
abbrev S16384x2688 : Shape := ⟨2, ![16384, 2688]⟩

abbrev nBuf : Space → Nat
  | .hbm => 100
  | .vmem => 6
  | .smem => 0
  | _ => 0

abbrev bufTy : (tb : Table) → Fin (tcTables nBuf tb) → BufTy
  | .hbm, ⟨0, _⟩ => ⟨S8x2048x1408, .bf16⟩
  | .hbm, ⟨1, _⟩ => ⟨S1408x2688, .fp8e4m3⟩
  | .hbm, ⟨2, _⟩ => ⟨S2688, .f32⟩
  | .hbm, ⟨3, _⟩ => ⟨S2x2, .f32⟩
  | .hbm, ⟨4, _⟩ => ⟨S8x2048x1408, .f32⟩
  | .hbm, ⟨5, _⟩ => ⟨S16384x11x128, .f32⟩
  | .hbm, ⟨6, _⟩ => ⟨S_, .f32⟩
  | .hbm, ⟨7, _⟩ => ⟨S1x1, .f32⟩
  | .hbm, ⟨8, _⟩ => ⟨S1x1x1x1, .f32⟩
  | .hbm, ⟨9, _⟩ => ⟨S1x2x1x2, .f32⟩
  | .hbm, ⟨10, _⟩ => ⟨S1x2x1x2, .f32⟩
  | .hbm, ⟨11, _⟩ => ⟨S1x2x1x2, .f32⟩
  | .hbm, ⟨12, _⟩ => ⟨S2x2, .f32⟩
  | .hbm, ⟨13, _⟩ => ⟨S2x1x2x1, .f32⟩
  | .hbm, ⟨14, _⟩ => ⟨S1x2x1x2, .f32⟩
  | .hbm, ⟨15, _⟩ => ⟨S2x2x2x2, .f32⟩
  | .hbm, ⟨16, _⟩ => ⟨S2x2x2x2, .f32⟩
  | .hbm, ⟨17, _⟩ => ⟨S2x2x2x2, .f32⟩
  | .hbm, ⟨18, _⟩ => ⟨S4x4, .f32⟩
  | .hbm, ⟨19, _⟩ => ⟨S4x1x4x1, .f32⟩
  | .hbm, ⟨20, _⟩ => ⟨S1x2x1x2, .f32⟩
  | .hbm, ⟨21, _⟩ => ⟨S4x2x4x2, .f32⟩
  | .hbm, ⟨22, _⟩ => ⟨S4x2x4x2, .f32⟩
  | .hbm, ⟨23, _⟩ => ⟨S4x2x4x2, .f32⟩
  | .hbm, ⟨24, _⟩ => ⟨S8x8, .f32⟩
  | .hbm, ⟨25, _⟩ => ⟨S8x1x8x1, .f32⟩
  | .hbm, ⟨26, _⟩ => ⟨S1x2x1x2, .f32⟩
  | .hbm, ⟨27, _⟩ => ⟨S8x2x8x2, .f32⟩
  | .hbm, ⟨28, _⟩ => ⟨S8x2x8x2, .f32⟩
  | .hbm, ⟨29, _⟩ => ⟨S8x2x8x2, .f32⟩
  | .hbm, ⟨30, _⟩ => ⟨S16x16, .f32⟩
  | .hbm, ⟨31, _⟩ => ⟨S16x1x16x1, .f32⟩
  | .hbm, ⟨32, _⟩ => ⟨S1x2x1x2, .f32⟩
  | .hbm, ⟨33, _⟩ => ⟨S16x2x16x2, .f32⟩
  | .hbm, ⟨34, _⟩ => ⟨S16x2x16x2, .f32⟩
  | .hbm, ⟨35, _⟩ => ⟨S16x2x16x2, .f32⟩
  | .hbm, ⟨36, _⟩ => ⟨S32x32, .f32⟩
  | .hbm, ⟨37, _⟩ => ⟨S32x1x32x1, .f32⟩
  | .hbm, ⟨38, _⟩ => ⟨S1x2x1x2, .f32⟩
  | .hbm, ⟨39, _⟩ => ⟨S32x2x32x2, .f32⟩
  | .hbm, ⟨40, _⟩ => ⟨S32x2x32x2, .f32⟩
  | .hbm, ⟨41, _⟩ => ⟨S32x2x32x2, .f32⟩
  | .hbm, ⟨42, _⟩ => ⟨S64x64, .f32⟩
  | .hbm, ⟨43, _⟩ => ⟨S64x1x64x1, .f32⟩
  | .hbm, ⟨44, _⟩ => ⟨S1x2x1x2, .f32⟩
  | .hbm, ⟨45, _⟩ => ⟨S64x2x64x2, .f32⟩
  | .hbm, ⟨46, _⟩ => ⟨S64x2x64x2, .f32⟩
  | .hbm, ⟨47, _⟩ => ⟨S64x2x64x2, .f32⟩
  | .hbm, ⟨48, _⟩ => ⟨S128x128, .f32⟩
  | .hbm, ⟨49, _⟩ => ⟨S_, .f32⟩
  | .hbm, ⟨50, _⟩ => ⟨S128x128, .f32⟩
  | .hbm, ⟨51, _⟩ => ⟨S128x128, .f32⟩
  | .hbm, ⟨52, _⟩ => ⟨S16384x11x128, .f32⟩
  | .hbm, ⟨53, _⟩ => ⟨S16384x11x128, .f32⟩
  | .hbm, ⟨54, _⟩ => ⟨S_, .f32⟩
  | .hbm, ⟨55, _⟩ => ⟨S16384x11, .f32⟩
  | .hbm, ⟨56, _⟩ => ⟨S_, .f32⟩
  | .hbm, ⟨57, _⟩ => ⟨S16384x11, .f32⟩
  | .hbm, ⟨58, _⟩ => ⟨S16384x11, .f32⟩
  | .hbm, ⟨59, _⟩ => ⟨S16384x11, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S16384x11, .f32⟩
  | .hbm, ⟨64, _⟩ => ⟨S16384x11, .f32⟩
  | .hbm, ⟨65, _⟩ => ⟨S16384x11, .f32⟩
  | .hbm, ⟨66, _⟩ => ⟨S_, .f32⟩
  | .hbm, ⟨67, _⟩ => ⟨S16384x11, .f32⟩
  | .hbm, ⟨68, _⟩ => ⟨S16384x11, .f32⟩
  | .hbm, ⟨69, _⟩ => ⟨S_, .f32⟩
  | .hbm, ⟨70, _⟩ => ⟨S16384x11, .f32⟩
  | .hbm, ⟨71, _⟩ => ⟨S16384x11, .i1⟩
  | .hbm, ⟨72, _⟩ => ⟨S_, .f32⟩
  | .hbm, ⟨73, _⟩ => ⟨S16384x11, .f32⟩
  | .hbm, ⟨74, _⟩ => ⟨S16384x11, .f32⟩
  | .hbm, ⟨75, _⟩ => ⟨S_, .f32⟩
  | .hbm, ⟨76, _⟩ => ⟨S16384x11, .f32⟩
  | .hbm, ⟨77, _⟩ => ⟨S16384x11, .f32⟩
  | .hbm, ⟨78, _⟩ => ⟨S16384x11, .f32⟩
  | .hbm, ⟨79, _⟩ => ⟨S_, .f32⟩
  | .hbm, ⟨80, _⟩ => ⟨S16384x11, .f32⟩
  | .hbm, ⟨81, _⟩ => ⟨S16384x11, .f32⟩
  | .hbm, ⟨82, _⟩ => ⟨S16384x11x1, .f32⟩
  | .hbm, ⟨83, _⟩ => ⟨S16384x11x128, .f32⟩
  | .hbm, ⟨84, _⟩ => ⟨S16384x11x128, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S16384x11x128, .f32⟩
  | .hbm, ⟨89, _⟩ => ⟨S16384x11x128, .f32⟩
  | .hbm, ⟨90, _⟩ => ⟨S_, .f32⟩
  | .hbm, ⟨91, _⟩ => ⟨S16384x11x128, .f32⟩
  | .hbm, ⟨92, _⟩ => ⟨S16384x11x128, .f32⟩
  | .hbm, ⟨93, _⟩ => ⟨S16384x1408, .f32⟩
  | .hbm, ⟨94, _⟩ => ⟨S16384x11x1, .f32⟩
  | .hbm, ⟨95, _⟩ => ⟨S16384x11x128, .f32⟩
  | .hbm, ⟨96, _⟩ => ⟨S16384x1408, .f32⟩
  | .hbm, ⟨97, _⟩ => ⟨S1x2688, .f32⟩
  | .hbm, ⟨98, _⟩ => ⟨S16384x2688, .bf16⟩
  | .hbm, ⟨99, _⟩ => ⟨S16384x1408, .fp8e4m3⟩
  | .local _ .vmem, ⟨0, _⟩ => ⟨S16384x1408, .f32⟩
  | .local _ .vmem, ⟨1, _⟩ => ⟨S16384x1408, .f32⟩
  | .local _ .vmem, ⟨2, _⟩ => ⟨S1408x2688, .fp8e4m3⟩
  | .local _ .vmem, ⟨3, _⟩ => ⟨S1x2688, .f32⟩
  | .local _ .vmem, ⟨4, _⟩ => ⟨S16384x2688, .bf16⟩
  | .local _ .vmem, ⟨5, _⟩ => ⟨S16384x1408, .fp8e4m3⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v3 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v4 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v5 : Ref sig .tc := ⟨.hbm, 24, rfl⟩
abbrev main_call3_v0 : Ref sig .tc := ⟨.hbm, 25, rfl⟩
abbrev main_call3_v1 : Ref sig .tc := ⟨.hbm, 26, rfl⟩
abbrev main_call3_v2 : Ref sig .tc := ⟨.hbm, 27, rfl⟩
abbrev main_call3_v3 : Ref sig .tc := ⟨.hbm, 28, rfl⟩
abbrev main_call3_v4 : Ref sig .tc := ⟨.hbm, 29, rfl⟩
abbrev main_v6 : Ref sig .tc := ⟨.hbm, 30, rfl⟩
abbrev main_call4_v0 : Ref sig .tc := ⟨.hbm, 31, rfl⟩
abbrev main_call4_v1 : Ref sig .tc := ⟨.hbm, 32, rfl⟩
abbrev main_call4_v2 : Ref sig .tc := ⟨.hbm, 33, rfl⟩
abbrev main_call4_v3 : Ref sig .tc := ⟨.hbm, 34, rfl⟩
abbrev main_call4_v4 : Ref sig .tc := ⟨.hbm, 35, rfl⟩
abbrev main_v7 : Ref sig .tc := ⟨.hbm, 36, rfl⟩
abbrev main_call5_v0 : Ref sig .tc := ⟨.hbm, 37, rfl⟩
abbrev main_call5_v1 : Ref sig .tc := ⟨.hbm, 38, rfl⟩
abbrev main_call5_v2 : Ref sig .tc := ⟨.hbm, 39, rfl⟩
abbrev main_call5_v3 : Ref sig .tc := ⟨.hbm, 40, rfl⟩
abbrev main_call5_v4 : Ref sig .tc := ⟨.hbm, 41, rfl⟩
abbrev main_v8 : Ref sig .tc := ⟨.hbm, 42, rfl⟩
abbrev main_call6_v0 : Ref sig .tc := ⟨.hbm, 43, rfl⟩
abbrev main_call6_v1 : Ref sig .tc := ⟨.hbm, 44, rfl⟩
abbrev main_call6_v2 : Ref sig .tc := ⟨.hbm, 45, rfl⟩
abbrev main_call6_v3 : Ref sig .tc := ⟨.hbm, 46, rfl⟩
abbrev main_call6_v4 : Ref sig .tc := ⟨.hbm, 47, rfl⟩
abbrev main_v9 : Ref sig .tc := ⟨.hbm, 48, rfl⟩
abbrev main_cst_1 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_2 : Ref sig .tc := ⟨.hbm, 54, rfl⟩
abbrev main_v14 : Ref sig .tc := ⟨.hbm, 55, rfl⟩
abbrev main_cst_3 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_4 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_5 : Ref sig .tc := ⟨.hbm, 66, rfl⟩
abbrev main_v23 : Ref sig .tc := ⟨.hbm, 67, rfl⟩
abbrev main_v24 : Ref sig .tc := ⟨.hbm, 68, rfl⟩
abbrev main_cst_6 : Ref sig .tc := ⟨.hbm, 69, rfl⟩
abbrev main_v25 : Ref sig .tc := ⟨.hbm, 70, rfl⟩
abbrev main_v26 : Ref sig .tc := ⟨.hbm, 71, rfl⟩
abbrev main_cst_7 : Ref sig .tc := ⟨.hbm, 72, rfl⟩
abbrev main_v27 : Ref sig .tc := ⟨.hbm, 73, rfl⟩
abbrev main_v28 : Ref sig .tc := ⟨.hbm, 74, rfl⟩
abbrev main_cst_8 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_cst_9 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_cst_10 : Ref sig .tc := ⟨.hbm, 85, rfl⟩
abbrev main_cst_11 : Ref sig .tc := ⟨.hbm, 86, rfl⟩
abbrev main_call8_v0 : Ref sig .tc := ⟨.hbm, 87, rfl⟩
abbrev main_call8_v1 : Ref sig .tc := ⟨.hbm, 88, rfl⟩
abbrev main_call8_v2 : Ref sig .tc := ⟨.hbm, 89, rfl⟩
abbrev main_call8_v3 : Ref sig .tc := ⟨.hbm, 90, rfl⟩
abbrev main_call8_v4 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43_0 : Ref sig .tc := ⟨.hbm, 98, rfl⟩
abbrev main_v43_1 : Ref sig .tc := ⟨.hbm, 99, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1408x2688 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x2688 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x1408 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.RHost.lean ====
module
public import proofs.«01_k».proof.Proof.Gen.ReferenceIdeal.Value

/-! The reference's host values, one small definition for each quantity it computes on the way to the call, and the fact
that the buffers hold them when the call is entered. -/

@[expose] public section

set_option maxRecDepth 16384

noncomputable section

open Idealize.ShloMosaic Idealize.ShloMosaic.TcCoe Idealize.SL.Sem

namespace Cert.ReferenceIdeal.Host

open Cert.ReferenceIdeal Cert.ReferenceIdeal.Gen

section AnyF
variable {F : FTy → Type} [FloatOps F]

/-- The 2×2 matrix with entries 1, 1, 1, -1. -/
def base : Vec F S2x2 .f32 := fun i => FloatOps.ofBits .f32 (lit0 (S2x2.rowMajor i))

/-- The 1×1 matrix of one. -/
def kron0 : Vec F S1x1 .f32 := broadcastInDim S1x1 ![] bcast_S_S1x1 (constant S_ .f32 0x3F800000#32)

/-- The Kronecker product of a 1×1 matrix with the base. -/
def kron1 (h : Vec F S1x1 .f32) : Vec F S2x2 .f32 :=
  shapeCast S2x2 (mulf (broadcastInDim S1x2x1x2 ![0, 1, 2, 3] bcast_S1x1x1x1_S1x2x1x2_0_1_2_3 (broadcastInDim S1x1x1x1 ![0, 2] bcast_S1x1_S1x1x1x1_0_2 h))
    (broadcastInDim S1x2x1x2 ![1, 3] bcast_S2x2_S1x2x1x2_1_3 base)) shapeCasts_S1x2x1x2_S2x2

/-- The Kronecker product of a 2×2 matrix with the base. -/
def kron2 (h : Vec F S2x2 .f32) : Vec F S4x4 .f32 :=
  shapeCast S4x4 (mulf (broadcastInDim S2x2x2x2 ![0, 1, 2, 3] bcast_S2x1x2x1_S2x2x2x2_0_1_2_3 (broadcastInDim S2x1x2x1 ![0, 2] bcast_S2x2_S2x1x2x1_0_2 h))
    (broadcastInDim S2x2x2x2 ![0, 1, 2, 3] bcast_S1x2x1x2_S2x2x2x2_0_1_2_3 (broadcastInDim S1x2x1x2 ![1, 3] bcast_S2x2_S1x2x1x2_1_3 base))) shapeCasts_S2x2x2x2_S4x4

/-- The Kronecker product of a 4×4 matrix with the base. -/
def kron3 (h : Vec F S4x4 .f32) : Vec F S8x8 .f32 :=
  shapeCast S8x8 (mulf (broadcastInDim S4x2x4x2 ![0, 1, 2, 3] bcast_S4x1x4x1_S4x2x4x2_0_1_2_3 (broadcastInDim S4x1x4x1 ![0, 2] bcast_S4x4_S4x1x4x1_0_2 h))
    (broadcastInDim S4x2x4x2 ![0, 1, 2, 3] bcast_S1x2x1x2_S4x2x4x2_0_1_2_3 (broadcastInDim S1x2x1x2 ![1, 3] bcast_S2x2_S1x2x1x2_1_3 base))) shapeCasts_S4x2x4x2_S8x8

/-- The Kronecker product of a 8×8 matrix with the base. -/
def kron4 (h : Vec F S8x8 .f32) : Vec F S16x16 .f32 :=
  shapeCast S16x16 (mulf (broadcastInDim S8x2x8x2 ![0, 1, 2, 3] bcast_S8x1x8x1_S8x2x8x2_0_1_2_3 (broadcastInDim S8x1x8x1 ![0, 2] bcast_S8x8_S8x1x8x1_0_2 h))
    (broadcastInDim S8x2x8x2 ![0, 1, 2, 3] bcast_S1x2x1x2_S8x2x8x2_0_1_2_3 (broadcastInDim S1x2x1x2 ![1, 3] bcast_S2x2_S1x2x1x2_1_3 base))) shapeCasts_S8x2x8x2_S16x16

/-- The Kronecker product of a 16×16 matrix with the base. -/
def kron5 (h : Vec F S16x16 .f32) : Vec F S32x32 .f32 :=
  shapeCast S32x32 (mulf (broadcastInDim S16x2x16x2 ![0, 1, 2, 3] bcast_S16x1x16x1_S16x2x16x2_0_1_2_3 (broadcastInDim S16x1x16x1 ![0, 2] bcast_S16x16_S16x1x16x1_0_2 h))
    (broadcastInDim S16x2x16x2 ![0, 1, 2, 3] bcast_S1x2x1x2_S16x2x16x2_0_1_2_3 (broadcastInDim S1x2x1x2 ![1, 3] bcast_S2x2_S1x2x1x2_1_3 base))) shapeCasts_S16x2x16x2_S32x32

/-- The Kronecker product of a 32×32 matrix with the base. -/
def kron6 (h : Vec F S32x32 .f32) : Vec F S64x64 .f32 :=
  shapeCast S64x64 (mulf (broadcastInDim S32x2x32x2 ![0, 1, 2, 3] bcast_S32x1x32x1_S32x2x32x2_0_1_2_3 (broadcastInDim S32x1x32x1 ![0, 2] bcast_S32x32_S32x1x32x1_0_2 h))
    (broadcastInDim S32x2x32x2 ![0, 1, 2, 3] bcast_S1x2x1x2_S32x2x32x2_0_1_2_3 (broadcastInDim S1x2x1x2 ![1, 3] bcast_S2x2_S1x2x1x2_1_3 base))) shapeCasts_S32x2x32x2_S64x64

/-- The Kronecker product of a 64×64 matrix with the base. -/
def kron7 (h : Vec F S64x64 .f32) : Vec F S128x128 .f32 :=
  shapeCast S128x128 (mulf (broadcastInDim S64x2x64x2 ![0, 1, 2, 3] bcast_S64x1x64x1_S64x2x64x2_0_1_2_3 (broadcastInDim S64x1x64x1 ![0, 2] bcast_S64x64_S64x1x64x1_0_2 h))
    (broadcastInDim S64x2x64x2 ![0, 1, 2, 3] bcast_S1x2x1x2_S64x2x64x2_0_1_2_3 (broadcastInDim S1x2x1x2 ![1, 3] bcast_S2x2_S1x2x1x2_1_3 base))) shapeCasts_S64x2x64x2_S128x128

/-- The unscaled 128×128 Hadamard matrix. -/
def hadU : Vec F S128x128 .f32 := kron7 (kron6 (kron5 (kron4 (kron3 (kron2 (kron1 kron0))))))

/-- The scaled 128×128 Hadamard matrix. -/
def hadN : Vec F S128x128 .f32 := mulf hadU (broadcastInDim S128x128 ![] bcast_S_S128x128 (constant S_ .f32 0x3DB504F3#32))

/-- The input cut into groups of 128. -/
def grp (x : Vec F S8x2048x1408 .bf16) : Vec F S16384x11x128 .f32 :=
  shapeCast S16384x11x128 (extf .f32 x bitsLt_bf16_f32) shapeCasts_S8x2048x1408_S16384x11x128

/-- Groups times a matrix. -/
def mulH (g : Vec F S16384x11x128 .f32) (h : Vec F S128x128 .f32) : Vec F S16384x11x128 .f32 :=
  Host.dotGeneral dot_S16384x11x128_S128x128_S16384x11x128_2_0_01_1_n_n (some .fp32) g h

/-- The largest magnitude of each group. -/
def amaxR (r : Vec F S16384x11x128 .f32) : Vec F S16384x11 .f32 :=
  Host.reduce FloatOps.maximumf (Host.absf r) (constant S_ .f32 0xFF800000#32) reducesTo_S16384x11x128_S16384x11_d2 h_S_

/-- The magnitude over 448. -/
def vR (a : Vec F S16384x11 .f32) : Vec F S16384x11 .f32 :=
  mulf a (broadcastInDim S16384x11 ![] bcast_S_S16384x11 (constant S_ .f32 0x3B124925#32))

/-- The exponent of a nonzero magnitude. -/
def e1R (a : Vec F S16384x11 .f32) : Vec F S16384x11 .f32 :=
  addf (Host.floor (Host.divf (Host.log (vR a)) (broadcastInDim S16384x11 ![] bcast_S_S16384x11 (id (Host.log (constant S_ .f32 0x40000000#32))))))
    (broadcastInDim S16384x11 ![] bcast_S_S16384x11 (constant S_ .f32 0x3F800000#32))

/-- The exponent of a magnitude. -/
def eR (a : Vec F S16384x11 .f32) : Vec F S16384x11 .f32 :=
  select (cmpf .oeq a (broadcastInDim S16384x11 ![] bcast_S_S16384x11 (constant S_ .f32 0x00000000#32)))
    (broadcastInDim S16384x11 ![] bcast_S_S16384x11 (constant S_ .f32 0x00000000#32)) (e1R a)

/-- Two to the exponent. -/
def sclR (e : Vec F S16384x11 .f32) : Vec F S16384x11 .f32 :=
  Host.powf (broadcastInDim S16384x11 ![] bcast_S_S16384x11 (constant S_ .f32 0x40000000#32)) e

/-- A number for each group, spread over the group. -/
def spread (s : Vec F S16384x11 .f32) : Vec F S16384x11x128 .f32 :=
  broadcastInDim S16384x11x128 ![0, 1, 2] bcast_S16384x11x1_S16384x11x128_0_1_2 (broadcastInDim S16384x11x1 ![0, 1] bcast_S16384x11_S16384x11x1_0_1 s)

/-- The clipped quotients. -/
def clipR (r : Vec F S16384x11x128 .f32) (i : Vec F S16384x11 .f32) : Vec F S16384x11x128 .f32 :=
  minimumf (broadcastInDim S16384x11x128 ![] bcast_S_S16384x11x128 (id (constant S_ .f32 0x43E00000#32)))
    (maximumf (broadcastInDim S16384x11x128 ![] bcast_S_S16384x11x128 (id (constant S_ .f32 0xC3E00000#32))) (mulf r (spread i)))

/-- Groups laid end to end. -/
def flat (v : Vec F S16384x11x128 .f32) : Vec F S16384x1408 .f32 := shapeCast S16384x1408 v shapeCasts_S16384x11x128_S16384x1408

/-- The rotated groups. -/
def rotR (x : Vec F S8x2048x1408 .bf16) : Vec F S16384x11x128 .f32 := mulH (grp x) hadN

/-- The exponents. -/
def expR (x : Vec F S8x2048x1408 .bf16) : Vec F S16384x11 .f32 := eR (amaxR (rotR x))

/-- The scales. -/
def scaleR (x : Vec F S8x2048x1408 .bf16) : Vec F S16384x11 .f32 := sclR (expR x)

/-- The clipped quotients of the rotated groups, row by row. -/
def codesR (x : Vec F S8x2048x1408 .bf16) : Vec F S16384x1408 .f32 := flat (clipR (rotR x) (sclR (Host.negf (expR x))))

variable (m : (ℓ : Loc nD τ sig) → Buf (Elt F) ℓ)

/-- The host's third result is the scales. -/
theorem V_v30 (c : Dev nD) : V m c main_v30 = scaleR (m ((c : Thread nD τ).loc main_arg0)) := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- The call's first operand is the clipped values. -/
theorem V_v38 (c : Dev nD) : V m c main_v38 = codesR (m ((c : Thread nD τ).loc main_arg0)) := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- The call's second operand is the scales, one per column. -/
theorem V_v41 (c : Dev nD) : V m c main_v41 = flat (spread (scaleR (m ((c : Thread nD τ).loc main_arg0)))) := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

/-- The call's last operand is the column scales as a row. -/
theorem V_v42 (c : Dev nD) : V m c main_v42 = shapeCast S1x2688 (m ((c : Thread nD τ).loc main_arg2)) shapeCasts_S2688_S1x2688 := by
  unfold V
  simp only [hostOps0, hostOps0_1, hostOps0_2, hostOps0_3, hostOps0_4, hostOps0_5, hostOps0_6, hostOps0_7, hostOps0_8, hostOps0_9, hostOps0_10,
    hostOps0_11, hostOps0_12, List.flatten_cons, List.flatten_nil, List.append_nil, List.cons_append, List.nil_append]
  after_results_simp
  rfl

end AnyF
end Cert.ReferenceIdeal.Host
end
-- ==== Proof.Spec.lean ====
module
public import Idealize.ShloMosaic.PureOps.Ideal.Laws
public import Mathlib.Analysis.SpecialFunctions.Pow.Real

/-! The layer's mathematics over the extended reals, no program named.

A group is 128 consecutive columns of a row.  It is rotated by a sign matrix, its largest magnitude picks a
power-of-two scale, and its codes are the rotated values over the scale, clipped to the format's range. -/

@[expose] public section

noncomputable section

open Idealize.ShloMosaic

namespace RotQuant

/-! ## The constants -/

/-- `1 / sqrt 128` as the nearest single-precision number. -/
def norm : EReal := Ideal.ofBits .f32 0x3DB504F3#32

/-- `1 / 448` as the nearest single-precision number. -/
def c448 : EReal := Ideal.ofBits .f32 0x3B124925#32

/-- The largest code. -/
def hi : EReal := Ideal.ofBits .f32 0x43E00000#32

/-- The smallest code. -/
def lo : EReal := Ideal.ofBits .f32 0xC3E00000#32

/-- `norm` is a positive real. -/
theorem norm_pos : ∃ r : ℝ, 0 < r ∧ norm = (r : EReal) := by
  refine ⟨(2 ^ 23 + 3474675 : ℕ) * (2 : ℝ) ^ (-27 : ℤ), by positivity, ?_⟩
  simp [norm, Ideal.ofBits, Ideal.ieee, -EReal.coe_mul]

/-- `c448` is a positive real. -/
theorem c448_pos : ∃ r : ℝ, 0 < r ∧ c448 = (r : EReal) := by
  refine ⟨(2 ^ 23 + 1198373 : ℕ) * (2 : ℝ) ^ (-32 : ℤ), by positivity, ?_⟩
  simp [c448, Ideal.ofBits, Ideal.ieee, -EReal.coe_mul]

/-! ## The rotation -/

/-- The sign matrix of size `2 ^ k`: each doubling multiplies by `[[1, 1], [1, -1]]` in the low bit. -/
def had : ℕ → ℕ → ℕ → ℝ
  | 0, _, _ => 1
  | k + 1, i, j => had k (i / 2) (j / 2) * (if i % 2 = 1 ∧ j % 2 = 1 then -1 else 1)

/-- A group against the sign matrix. -/
def rot (x : Fin 128 → EReal) (j : Fin 128) : EReal := ∑ i : Fin 128, x i * ((had 7 i j : ℝ) : EReal)

/-- The largest magnitude of the rotated group, before normalising. -/
def amax (x : Fin 128 → EReal) : EReal := (Finset.univ : Finset (Fin 128)).fold max ⊥ fun j => max (rot x j) (-rot x j)

/-- The normalised largest magnitude over 448. -/
def vOf (x : Fin 128 → EReal) : EReal := amax x * norm * c448

/-! ## The scale, as the exponent search finds it -/

/-- One step of the exponent search. -/
def step (v : EReal) (e b : BitVec 32) : BitVec 32 :=
  if v < Ideal.ofBits .f32 ((e + b) <<< (23 : ℕ)) then e else e + b

/-- The eight steps. -/
def expo (v : EReal) : BitVec 32 :=
  step v (step v (step v (step v (step v (step v (step v (step v 0#32 128#32) 64#32) 32#32) 16#32) 8#32) 4#32) 2#32) 1#32

/-- The biased exponent taken. -/
def biased (v : EReal) : BitVec 32 := if v = 0 then 126#32 else expo v

/-- The scale. -/
def scl (v : EReal) : EReal := Ideal.ofBits .f32 ((biased v + 1#32) <<< (23 : ℕ))

/-- The inverse scale. -/
def inv (v : EReal) : EReal := Ideal.ofBits .f32 ((253#32 - biased v) <<< (23 : ℕ))

/-- The codes of a group. -/
def code (x : Fin 128 → EReal) (j : Fin 128) : EReal := min hi (max lo (rot x j * norm * inv (vOf x)))

/-! ## The scale, as a logarithm and a power -/

/-- The exponent: `floor (log2 v) + 1`, zero where `v` is. -/
def ex (v : EReal) : EReal :=
  if v = 0 then 0 else Ideal.liftRound Int.floor (Ideal.div (Ideal.log v) (Ideal.log ((2 : ℝ) : EReal))) + 1

/-- The condition under which the two are one: `v` is zero, or its scale and its scale's inverse are normal numbers. -/
def Normal (v : EReal) : Prop := v = 0 ∨ (((2 : ℝ) ^ (-127 : ℤ) : ℝ) : EReal) ≤ v ∧ v < (((2 : ℝ) ^ (126 : ℤ) : ℝ) : EReal)

/-- The fields of a number with exponent field `t` and nothing else. -/
theorem fields (t : Fin 256) : ((BitVec.ofNat 32 t.val <<< (23 : ℕ)).extractLsb' 31 1 == 1#1) = false
    ∧ ((BitVec.ofNat 32 t.val <<< (23 : ℕ)).extractLsb' 23 8).toNat = t.val
    ∧ ((BitVec.ofNat 32 t.val <<< (23 : ℕ)).extractLsb' 0 23).toNat = 0 := by
  revert t; decide +kernel

/-- A number of known fields, its fraction zero. -/
theorem ofBits_of_fields {b : BitVec 32} {t : ℕ} (f1 : (b.extractLsb' 31 1 == 1#1) = false) (f2 : (b.extractLsb' 23 8).toNat = t)
    (f3 : (b.extractLsb' 0 23).toNat = 0) (h1 : 1 ≤ t) :
    Ideal.ofBits .f32 b = if t = 255 then ⊤ else (((2 : ℝ) ^ ((t : ℤ) - 127) : ℝ) : EReal) := by
  simp only [Ideal.ofBits, Ideal.ieee, f1, f2, f3, show (8 + 23 : ℕ) = 31 from rfl]
  by_cases h : t = 255
  · simp [h]
  · have h0 : t ≠ 0 := by omega
    have : (2 : ℝ) ^ ((t : ℤ) - 127) = (2 : ℝ) ^ (23 : ℕ) * (2 : ℝ) ^ ((t : ℤ) - 127 - 23) := by
      rw [← zpow_natCast, ← zpow_add₀ (by norm_num)]; congr 1; push_cast; ring
    rw [this]
    rw [if_neg h, if_neg (by simpa using h), if_neg h0]
    congr 1
    push_cast; norm_num

/-- A normal exponent field alone is a power of two. -/
theorem ofBits_field {t : ℕ} (h1 : 1 ≤ t) (h2 : t ≤ 254) :
    Ideal.ofBits .f32 (BitVec.ofNat 32 t <<< (23 : ℕ)) = (((2 : ℝ) ^ ((t : ℤ) - 127) : ℝ) : EReal) := by
  obtain ⟨f1, f2, f3⟩ := fields ⟨t, by omega⟩
  rw [ofBits_of_fields f1 f2 f3 h1, if_neg (by dsimp only; omega)]

/-- The exponent field of all ones alone is an infinity. -/
theorem ofBits_top : Ideal.ofBits .f32 (BitVec.ofNat 32 255 <<< (23 : ℕ)) = ⊤ := by
  obtain ⟨f1, f2, f3⟩ := fields ⟨255, by omega⟩
  rw [ofBits_of_fields f1 f2 f3 (by decide), if_pos rfl]

/-- One step narrows the bracket: with `2 ^ (K - 127) ≤ v < 2 ^ (K - 126)`, and `K` in `[E, E + 2 b)`, the step leaves
    an `E'` with `K` in `[E', E' + b)`. -/
theorem step_bracket {r : ℝ} {k : ℤ} {K : ℕ} (hK : (k : ℤ) ≤ (K : ℤ) - 127) (hk : K = 0 ∨ k = (K : ℤ) - 127) (h1 : (2 : ℝ) ^ k ≤ r) (h2 : r < (2 : ℝ) ^ (k + 1))
    (hK2 : K ≤ 253) {E b : ℕ} (hb : 1 ≤ b) (hE : E + b ≤ 255) (hEK : E ≤ K) (hKE : K < E + 2 * b) :
    ∃ E', step (r : EReal) (BitVec.ofNat 32 E) (BitVec.ofNat 32 b) = BitVec.ofNat 32 E' ∧ E' ≤ K ∧ K < E' + b ∧ (E' = E ∨ E' = E + b) := by
  have hadd : BitVec.ofNat 32 E + BitVec.ofNat 32 b = BitVec.ofNat 32 (E + b) := by rw [BitVec.ofNat_add]
  have key : (r : EReal) < Ideal.ofBits .f32 (BitVec.ofNat 32 (E + b) <<< (23 : ℕ)) ↔ K < E + b := by
    rcases Nat.lt_or_ge (E + b) 255 with h | h
    · rw [ofBits_field (by omega) (by omega), EReal.coe_lt_coe_iff]
      constructor
      · intro hr
        by_contra hc
        have : (2 : ℝ) ^ (((E + b : ℕ) : ℤ) - 127) ≤ (2 : ℝ) ^ k := zpow_le_zpow_right₀ (by norm_num) (by omega)
        linarith
      · intro hc
        have : (2 : ℝ) ^ (k + 1) ≤ (2 : ℝ) ^ (((E + b : ℕ) : ℤ) - 127) := zpow_le_zpow_right₀ (by norm_num) (by omega)
        linarith
    · rw [show E + b = 255 by omega, ofBits_top]
      exact ⟨fun _ => by omega, fun _ => EReal.coe_lt_top r⟩
  unfold step
  rw [hadd]
  by_cases h : K < E + b
  · exact ⟨E, by rw [if_pos (key.mpr h)], hEK, h, .inl rfl⟩
  · exact ⟨E + b, by rw [if_neg (fun hc => h (key.mp hc))], by omega, by omega, .inr rfl⟩

/-- The search finds the exponent field. -/
theorem expo_eq {r : ℝ} {k : ℤ} {K : ℕ} (hK : (k : ℤ) ≤ (K : ℤ) - 127) (hk : K = 0 ∨ k = (K : ℤ) - 127) (h1 : (2 : ℝ) ^ k ≤ r) (h2 : r < (2 : ℝ) ^ (k + 1))
    (hK2 : K ≤ 253) : expo (r : EReal) = BitVec.ofNat 32 K := by
  unfold expo
  obtain ⟨e1, q1, a1, b1, c1⟩ := step_bracket hK hk h1 h2 hK2 (E := 0) (b := 128) (by omega) (by omega) (by omega) (by omega)
  rw [q1]
  obtain ⟨e2, q2, a2, b2, c2⟩ := step_bracket hK hk h1 h2 hK2 (E := e1) (b := 64) (by omega) (by omega) (by omega) (by omega)
  rw [q2]
  obtain ⟨e3, q3, a3, b3, c3⟩ := step_bracket hK hk h1 h2 hK2 (E := e2) (b := 32) (by omega) (by omega) (by omega) (by omega)
  rw [q3]
  obtain ⟨e4, q4, a4, b4, c4⟩ := step_bracket hK hk h1 h2 hK2 (E := e3) (b := 16) (by omega) (by omega) (by omega) (by omega)
  rw [q4]
  obtain ⟨e5, q5, a5, b5, c5⟩ := step_bracket hK hk h1 h2 hK2 (E := e4) (b := 8) (by omega) (by omega) (by omega) (by omega)
  rw [q5]
  obtain ⟨e6, q6, a6, b6, c6⟩ := step_bracket hK hk h1 h2 hK2 (E := e5) (b := 4) (by omega) (by omega) (by omega) (by omega)
  rw [q6]
  obtain ⟨e7, q7, a7, b7, c7⟩ := step_bracket hK hk h1 h2 hK2 (E := e6) (b := 2) (by omega) (by omega) (by omega) (by omega)
  rw [q7]
  obtain ⟨e8, q8, a8, b8, c8⟩ := step_bracket hK hk h1 h2 hK2 (E := e7) (b := 1) (by omega) (by omega) (by omega) (by omega)
  rw [q8]
  congr 1; omega

/-- The floor of the logarithm to base two. -/
def flog (r : ℝ) : ℤ := ⌊Real.log r * (1 / Real.log 2)⌋

/-- A positive real lies between the powers of two its floor of the logarithm names. -/
theorem flog_bracket {r : ℝ} (hr : 0 < r) : (2 : ℝ) ^ flog r ≤ r ∧ r < (2 : ℝ) ^ (flog r + 1) := by
  have h2 : (0 : ℝ) < Real.log 2 := Real.log_pos (by norm_num)
  have a := Int.floor_le (Real.log r * (1 / Real.log 2))
  have b := Int.lt_floor_add_one (Real.log r * (1 / Real.log 2))
  rw [mul_one_div, le_div_iff₀ h2] at a
  rw [mul_one_div, div_lt_iff₀ h2] at b
  unfold flog
  rw [mul_one_div]
  constructor
  · rw [← Real.log_le_log_iff (by positivity) hr, Real.log_zpow]; exact a
  · rw [← Real.log_lt_log_iff hr (by positivity), Real.log_zpow]; push_cast; exact b

/-- The exponent of a positive real is its logarithm's floor plus one. -/
theorem ex_coe {r : ℝ} (hr : 0 < r) : ex (r : EReal) = (((flog r + 1 : ℤ) : ℝ) : EReal) := by
  have h2 : (0 : ℝ) < Real.log 2 := Real.log_pos (by norm_num)
  unfold ex
  rw [if_neg (by exact_mod_cast hr.ne'), Ideal.log_coe, if_neg (not_le.mpr hr), Ideal.log_coe, if_neg (by norm_num), Ideal.div_coe h2.ne', ← EReal.coe_mul,
    Ideal.liftRound_coe]
  unfold flog
  push_cast
  rfl

/-- Under the condition, the two scales and the two inverses are one. -/
theorem scl_inv_eq {v : EReal} (h : Normal v) :
    scl v = Ideal.pow ((2 : ℝ) : EReal) (ex v) ∧ inv v = Ideal.pow ((2 : ℝ) : EReal) (-ex v) := by
  rcases h with rfl | ⟨hlo, hhi⟩
  · have e0 : ex 0 = ((0 : ℝ) : EReal) := by unfold ex; rw [if_pos rfl]; rfl
    have b0 : biased 0 = 126#32 := by unfold biased; rw [if_pos rfl]
    unfold scl inv
    rw [e0, b0, ← EReal.coe_neg, Ideal.pow_coe_coe, Ideal.pow_coe_coe]
    have h127 := ofBits_field (t := 127) (by omega) (by omega)
    rw [show (126#32 + 1#32) = BitVec.ofNat 32 127 by decide, show (253#32 - 126#32) = BitVec.ofNat 32 127 by decide, h127]
    norm_num
  · induction v using EReal.rec with
    | bot => exact absurd hlo (by simp)
    | top => exact absurd hhi (by simp)
    | coe r =>
      rw [EReal.coe_le_coe_iff] at hlo
      rw [EReal.coe_lt_coe_iff] at hhi
      have hr : 0 < r := lt_of_lt_of_le (by positivity) hlo
      obtain ⟨h1, h2⟩ := flog_bracket hr
      set k := flog r with hk
      have k1 : -127 ≤ k := by
        by_contra hc
        have : (2 : ℝ) ^ (k + 1) ≤ (2 : ℝ) ^ (-127 : ℤ) := zpow_le_zpow_right₀ (by norm_num) (by omega)
        linarith
      have k2 : k ≤ 125 := by
        by_contra hc
        have : (2 : ℝ) ^ (126 : ℤ) ≤ (2 : ℝ) ^ k := zpow_le_zpow_right₀ (by norm_num) (by omega)
        linarith
      obtain ⟨K, hKk⟩ : ∃ K : ℕ, (K : ℤ) = k + 127 := ⟨(k + 127).toNat, by omega⟩
      have hb : biased (r : EReal) = BitVec.ofNat 32 K := by
        unfold biased
        rw [if_neg (by exact_mod_cast hr.ne')]
        exact expo_eq (k := k) (by omega) (.inr (by omega)) h1 h2 (by omega)
      unfold scl inv
      rw [hb, ex_coe hr, ← hk, ← EReal.coe_neg, Ideal.pow_coe_coe, Ideal.pow_coe_coe]
      have s1 : BitVec.ofNat 32 K + 1#32 = BitVec.ofNat 32 (K + 1) := by rw [BitVec.ofNat_add]
      have s2 : 253#32 - BitVec.ofNat 32 K = BitVec.ofNat 32 (253 - K) := by
        apply BitVec.eq_of_toNat_eq
        have hm : K % 4294967296 = K := Nat.mod_eq_of_lt (by omega)
        rw [BitVec.toNat_sub_of_le (by rw [BitVec.le_def]; simp; omega)]
        simp
        omega
      rw [s1, s2, ofBits_field (by omega) (by omega), ofBits_field (by omega) (by omega)]
      constructor
      · congr 1
        show _ = (2 : ℝ) ^ (((k + 1 : ℤ) : ℝ))
        rw [Real.rpow_intCast]
        congr 1; push_cast; omega
      · congr 1
        show _ = (2 : ℝ) ^ (-((k + 1 : ℤ) : ℝ))
        rw [← Int.cast_neg, Real.rpow_intCast]
        congr 1; omega

/-! ## The normalised rotation -/

/-- A sum of products with a positive real taken out. -/
theorem sum_mul_pos {ι : Type} (s : Finset ι) (f : ι → EReal) {c : ℝ} (hc : 0 < c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc.le) (EReal.coe_ne_top c)]

/-- Rotating by the normalised matrix is rotating by the signs and normalising. -/
theorem rot_norm (x : Fin 128 → EReal) (j : Fin 128) :
    ∑ i : Fin 128, x i * (((had 7 i j : ℝ) : EReal) * norm) = rot x j * norm := by
  obtain ⟨c, hc, e⟩ := norm_pos
  rw [e, rot, sum_mul_pos _ _ hc]
  exact Finset.sum_congr rfl fun i _ => (mul_assoc _ _ _).symm

/-- A positive real factor comes out of a largest value. -/
theorem fold_max_mul {ι : Type} (s : Finset ι) (f : ι → EReal) {c : ℝ} (hc : 0 < c) :
    s.fold max ⊥ (fun j => f j * (c : EReal)) = s.fold max ⊥ f * (c : EReal) := by
  classical
  induction s using Finset.induction_on with
  | empty => rw [Finset.fold_empty, Finset.fold_empty, EReal.bot_mul_coe_of_pos hc]
  | insert a s ha ih =>
    rw [Finset.fold_insert ha, Finset.fold_insert ha, ih]
    exact (Monotone.map_max (f := fun t : EReal => t * (c : EReal)) (fun p q h => mul_le_mul_of_nonneg_right h (by exact_mod_cast hc.le))).symm

/-- The largest magnitude of the normalised rotation. -/
theorem amax_norm (x : Fin 128 → EReal) :
    (Finset.univ : Finset (Fin 128)).fold max ⊥ (fun j => max (rot x j * norm) (-(rot x j * norm))) = amax x * norm := by
  obtain ⟨c, hc, e⟩ := norm_pos
  unfold amax
  rw [e, ← fold_max_mul _ _ hc]
  congr 1
  funext j
  rw [← EReal.neg_mul]
  exact (Monotone.map_max (f := fun t : EReal => t * (c : EReal)) (fun p q h => mul_le_mul_of_nonneg_right h (by exact_mod_cast hc.le))).symm

/-- A product with `1 / 448` is zero only where the factor is. -/
theorem mul_c448_eq_zero (a : EReal) : a * c448 = 0 ↔ a = 0 := by
  obtain ⟨c, hc, e⟩ := c448_pos
  rw [e, mul_eq_zero]
  constructor
  · rintro (h | h)
    · exact h
    · exact absurd h (by exact_mod_cast hc.ne')
  · exact .inl

/-! ## The sign matrix by parity -/

/-- The parity of the low `k` bits. -/
def par : ℕ → ℕ → Bool
  | 0, _ => false
  | k + 1, n => par k (n / 2) ^^ decide (n % 2 = 1)

/-- An entry of the sign matrix is the parity of the bits the row and the column share. -/
theorem had_eq_par (k : ℕ) : ∀ i j : ℕ, had k i j = if par k (i &&& j) then -1 else 1 := by
  induction k with
  | zero => intro i j; rfl
  | succ k ih =>
    intro i j
    have hm : (i &&& j) % 2 = 1 ↔ i % 2 = 1 ∧ j % 2 = 1 := by
      have := Nat.and_mod_two_pow (a := i) (b := j) (n := 1)
      rw [pow_one] at this
      rw [this]
      rcases Nat.mod_two_eq_zero_or_one i with h | h <;> rcases Nat.mod_two_eq_zero_or_one j with h' | h' <;> simp [h, h']
    have hd : (i &&& j) / 2 = i / 2 &&& j / 2 := by
      have := Nat.and_div_two_pow (a := i) (b := j) (n := 1)
      simpa using this
    unfold had par
    rw [ih, hd]
    by_cases h1 : par k (i / 2 &&& j / 2) = true <;> by_cases h2 : (i &&& j) % 2 = 1
    · rw [if_pos (hm.mp h2)]; simp [h1, h2]
    · rw [if_neg (fun h => h2 (hm.mpr h))]; simp [h1, h2]
    · rw [if_pos (hm.mp h2)]; simp [h1, h2]
    · rw [if_neg (fun h => h2 (hm.mpr h))]; simp [h1, h2]

/-- The sign matrix sees only the low bits. -/
theorem had_add (k : ℕ) : ∀ a b i j : ℕ, had k (2 ^ k * a + i) (2 ^ k * b + j) = had k i j := by
  induction k with
  | zero => intro a b i j; rfl
  | succ k ih =>
    intro a b i j
    have e1 : (2 ^ (k + 1) * a + i) / 2 = 2 ^ k * a + i / 2 := by
      rw [show 2 ^ (k + 1) * a = 2 * (2 ^ k * a) by ring]; omega
    have e2 : (2 ^ (k + 1) * b + j) / 2 = 2 ^ k * b + j / 2 := by
      rw [show 2 ^ (k + 1) * b = 2 * (2 ^ k * b) by ring]; omega
    have e3 : (2 ^ (k + 1) * a + i) % 2 = i % 2 := by
      rw [show 2 ^ (k + 1) * a = 2 * (2 ^ k * a) by ring]; omega
    have e4 : (2 ^ (k + 1) * b + j) % 2 = j % 2 := by
      rw [show 2 ^ (k + 1) * b = 2 * (2 ^ k * b) by ring]; omega
    unfold had
    rw [e1, e2, e3, e4, ih]

/-! ## The rows of the three results -/

/-- The groups of a row. -/
def group (x : Fin 1408 → EReal) (g : Fin 11) : Fin 128 → EReal := fun i => x ⟨128 * g.val + i.val, by omega⟩

/-- The group of a column. -/
abbrev gOf (c : Fin 1408) : Fin 11 := ⟨c.val / 128, by omega⟩

/-- The place of a column in its group. -/
abbrev jOf (c : Fin 1408) : Fin 128 := ⟨c.val % 128, by omega⟩

/-- A row of scales. -/
def sclRow (x : Fin 1408 → EReal) (g : Fin 11) : EReal := scl (vOf (group x g))

/-- A row of codes. -/
def codeRow (x : Fin 1408 → EReal) (c : Fin 1408) : EReal := code (group x (gOf c)) (jOf c)

/-- An entry of the product: the codes times their scales against a column of codes of the weight, times that column's scale. -/
def yEntry (x w : Fin 1408 → EReal) (ws : EReal) : EReal := (∑ c : Fin 1408, codeRow x c * sclRow x (gOf c) * w c) * ws

end RotQuant

end
-- ==== Proof.RIdeal.lean ====
module
public import proofs.«01_k».proof.Proof.RHost
public import proofs.«01_k».proof.Proof.Spec
public import Idealize.ShloMosaic.Lib.Pointwise
public import Idealize.ShloMosaic.Lib.IdealHost

/-! The reference's host values over the reals: each Kronecker stage entry by entry, so the Hadamard matrix is the signs, and
each step after it. -/

@[expose] public section

set_option maxRecDepth 16384

noncomputable section

open Idealize.ShloMosaic RotQuant

namespace Cert.ReferenceIdeal.Host

open Cert.ReferenceIdeal

/-- The base's entry. -/
def b2 (i j : ℕ) : ℝ := if i % 2 = 1 ∧ j % 2 = 1 then -1 else 1

/-- The words of the base matrix. -/
theorem lit_base : ∀ i j : Fin 2, lit0 ⟨i.val * 2 + j.val, by omega⟩ = if i.val % 2 = 1 ∧ j.val % 2 = 1 then 0xBF800000#32 else 0x3F800000#32 := by
  decide

/-- The word of two, over the reals. -/
theorem ofBits_two : Ideal.ofBits .f32 0x40000000#32 = ((2 : ℝ) : EReal) := by
  simp [Ideal.ofBits, Ideal.ieee, -EReal.coe_mul]
  norm_num

/-- An entry of the base matrix. -/
theorem base_apply (i j : Fin 2) : (base : Vec Ideal S2x2 .f32) (ix2 i j) = ((b2 i j : ℝ) : EReal) := by
  show Ideal.ofBits .f32 (lit0 (S2x2.rowMajor (ix2 i j))) = _
  have hm : Ideal.ofBits .f32 0xBF800000#32 = ((-1 : ℝ) : EReal) := by
    simp [Ideal.ofBits, Ideal.ieee, -EReal.coe_mul]
    norm_num
  have e : S2x2.rowMajor (ix2 i j) = ⟨i.val * 2 + j.val, by show _ < 4; omega⟩ := Fin.ext (Shape.rowMajor_val_two _)
  rw [e]
  refine (congrArg (Ideal.ofBits .f32) (lit_base i j)).trans ?_
  rw [b2]
  split
  · exact hm
  · exact Ideal.ofBits_one_f32

/-- The Kronecker stage of size 1 is the sign matrix of that size. -/
theorem kron0_apply (i j : Fin 1) : (kron0 : Vec Ideal S1x1 .f32) (ix2 i j) = ((had 0 i j : ℝ) : EReal) := by
  pointwise [kron0]
  simp [had]

/-- The Kronecker stage of size 2 is the sign matrix of that size. -/
theorem kron1_apply {h : Vec Ideal S1x1 .f32} (hh : ∀ i j : Fin 1, h (ix2 i j) = ((had 0 i j : ℝ) : EReal)) (i j : Fin 2) :
    kron1 h (ix2 i j) = ((had 1 i j : ℝ) : EReal) := by
  refine (shapeCast_apply _ _ (ix2 i j) (ix4 (⟨i.val / 2, by omega⟩ : Fin 1) (⟨i.val % 2, by omega⟩ : Fin 2) (⟨j.val / 2, by omega⟩ : Fin 1) (⟨j.val % 2, by omega⟩ : Fin 2)) ?_).trans ?_
  · rw [Shape.rowMajor_val_four, Shape.rowMajor_val_two]
    show ((i.val / 2 * 2 + i.val % 2) * 1 + j.val / 2) * 2 + j.val % 2 = i.val * 2 + j.val
    omega
  pointwise
  rw [base_apply, hh]
  simp only [had, b2, Nat.mod_mod, ← EReal.coe_mul]

/-- The Kronecker stage of size 4 is the sign matrix of that size. -/
theorem kron2_apply {h : Vec Ideal S2x2 .f32} (hh : ∀ i j : Fin 2, h (ix2 i j) = ((had 1 i j : ℝ) : EReal)) (i j : Fin 4) :
    kron2 h (ix2 i j) = ((had 2 i j : ℝ) : EReal) := by
  refine (shapeCast_apply _ _ (ix2 i j) (ix4 (⟨i.val / 2, by omega⟩ : Fin 2) (⟨i.val % 2, by omega⟩ : Fin 2) (⟨j.val / 2, by omega⟩ : Fin 2) (⟨j.val % 2, by omega⟩ : Fin 2)) ?_).trans ?_
  · rw [Shape.rowMajor_val_four, Shape.rowMajor_val_two]
    show ((i.val / 2 * 2 + i.val % 2) * 2 + j.val / 2) * 2 + j.val % 2 = i.val * 4 + j.val
    omega
  pointwise
  rw [base_apply, hh]
  simp only [had, b2, Nat.mod_mod, ← EReal.coe_mul]

/-- The Kronecker stage of size 8 is the sign matrix of that size. -/
theorem kron3_apply {h : Vec Ideal S4x4 .f32} (hh : ∀ i j : Fin 4, h (ix2 i j) = ((had 2 i j : ℝ) : EReal)) (i j : Fin 8) :
    kron3 h (ix2 i j) = ((had 3 i j : ℝ) : EReal) := by
  refine (shapeCast_apply _ _ (ix2 i j) (ix4 (⟨i.val / 2, by omega⟩ : Fin 4) (⟨i.val % 2, by omega⟩ : Fin 2) (⟨j.val / 2, by omega⟩ : Fin 4) (⟨j.val % 2, by omega⟩ : Fin 2)) ?_).trans ?_
  · rw [Shape.rowMajor_val_four, Shape.rowMajor_val_two]
    show ((i.val / 2 * 2 + i.val % 2) * 4 + j.val / 2) * 2 + j.val % 2 = i.val * 8 + j.val
    omega
  pointwise
  rw [base_apply, hh]
  simp only [had, b2, Nat.mod_mod, ← EReal.coe_mul]

/-- The Kronecker stage of size 16 is the sign matrix of that size. -/
theorem kron4_apply {h : Vec Ideal S8x8 .f32} (hh : ∀ i j : Fin 8, h (ix2 i j) = ((had 3 i j : ℝ) : EReal)) (i j : Fin 16) :
    kron4 h (ix2 i j) = ((had 4 i j : ℝ) : EReal) := by
  refine (shapeCast_apply _ _ (ix2 i j) (ix4 (⟨i.val / 2, by omega⟩ : Fin 8) (⟨i.val % 2, by omega⟩ : Fin 2) (⟨j.val / 2, by omega⟩ : Fin 8) (⟨j.val % 2, by omega⟩ : Fin 2)) ?_).trans ?_
  · rw [Shape.rowMajor_val_four, Shape.rowMajor_val_two]
    show ((i.val / 2 * 2 + i.val % 2) * 8 + j.val / 2) * 2 + j.val % 2 = i.val * 16 + j.val
    omega
  pointwise
  rw [base_apply, hh]
  simp only [had, b2, Nat.mod_mod, ← EReal.coe_mul]

/-- The Kronecker stage of size 32 is the sign matrix of that size. -/
theorem kron5_apply {h : Vec Ideal S16x16 .f32} (hh : ∀ i j : Fin 16, h (ix2 i j) = ((had 4 i j : ℝ) : EReal)) (i j : Fin 32) :
    kron5 h (ix2 i j) = ((had 5 i j : ℝ) : EReal) := by
  refine (shapeCast_apply _ _ (ix2 i j) (ix4 (⟨i.val / 2, by omega⟩ : Fin 16) (⟨i.val % 2, by omega⟩ : Fin 2) (⟨j.val / 2, by omega⟩ : Fin 16) (⟨j.val % 2, by omega⟩ : Fin 2)) ?_).trans ?_
  · rw [Shape.rowMajor_val_four, Shape.rowMajor_val_two]
    show ((i.val / 2 * 2 + i.val % 2) * 16 + j.val / 2) * 2 + j.val % 2 = i.val * 32 + j.val
    omega
  pointwise
  rw [base_apply, hh]
  simp only [had, b2, Nat.mod_mod, ← EReal.coe_mul]

/-- The Kronecker stage of size 64 is the sign matrix of that size. -/
theorem kron6_apply {h : Vec Ideal S32x32 .f32} (hh : ∀ i j : Fin 32, h (ix2 i j) = ((had 5 i j : ℝ) : EReal)) (i j : Fin 64) :
    kron6 h (ix2 i j) = ((had 6 i j : ℝ) : EReal) := by
  refine (shapeCast_apply _ _ (ix2 i j) (ix4 (⟨i.val / 2, by omega⟩ : Fin 32) (⟨i.val % 2, by omega⟩ : Fin 2) (⟨j.val / 2, by omega⟩ : Fin 32) (⟨j.val % 2, by omega⟩ : Fin 2)) ?_).trans ?_
  · rw [Shape.rowMajor_val_four, Shape.rowMajor_val_two]
    show ((i.val / 2 * 2 + i.val % 2) * 32 + j.val / 2) * 2 + j.val % 2 = i.val * 64 + j.val
    omega
  pointwise
  rw [base_apply, hh]
  simp only [had, b2, Nat.mod_mod, ← EReal.coe_mul]

/-- The Kronecker stage of size 128 is the sign matrix of that size. -/
theorem kron7_apply {h : Vec Ideal S64x64 .f32} (hh : ∀ i j : Fin 64, h (ix2 i j) = ((had 6 i j : ℝ) : EReal)) (i j : Fin 128) :
    kron7 h (ix2 i j) = ((had 7 i j : ℝ) : EReal) := by
  refine (shapeCast_apply _ _ (ix2 i j) (ix4 (⟨i.val / 2, by omega⟩ : Fin 64) (⟨i.val % 2, by omega⟩ : Fin 2) (⟨j.val / 2, by omega⟩ : Fin 64) (⟨j.val % 2, by omega⟩ : Fin 2)) ?_).trans ?_
  · rw [Shape.rowMajor_val_four, Shape.rowMajor_val_two]
    show ((i.val / 2 * 2 + i.val % 2) * 64 + j.val / 2) * 2 + j.val % 2 = i.val * 128 + j.val
    omega
  pointwise
  rw [base_apply, hh]
  simp only [had, b2, Nat.mod_mod, ← EReal.coe_mul]

/-- The unscaled Hadamard matrix is the signs. -/
theorem hadU_apply (i j : Fin 128) : (hadU : Vec Ideal S128x128 .f32) (ix2 i j) = ((had 7 i j : ℝ) : EReal) :=
  kron7_apply (kron6_apply (kron5_apply (kron4_apply (kron3_apply (kron2_apply (kron1_apply kron0_apply)))))) i j

/-- The scaled Hadamard matrix. -/
theorem hadN_apply (i j : Fin 128) : (hadN : Vec Ideal S128x128 .f32) (ix2 i j) = ((had 7 i j : ℝ) : EReal) * norm := by
  pointwise [hadN]
  rw [hadU_apply]; rfl

/-- The product of the groups with a matrix, entry by entry. -/
theorem mulH_apply (g : Vec Ideal S16384x11x128 .f32) (h : Vec Ideal S128x128 .f32) (i : Fin 16384) (k : Fin 11) (j : Fin 128) :
    mulH g h (ix3 i k j) = ∑ l : Fin 128, g (ix3 i k l) * h (ix2 l j) := by
  pointwise [mulH]

/-- The largest magnitude of a group. -/
theorem amaxR_apply (r : Vec Ideal S16384x11x128 .f32) (i : Fin 16384) (k : Fin 11) :
    amaxR r (ix2 i k) = (Finset.univ : Finset (Fin 128)).fold max ⊥ fun j => max (r (ix3 i k j)) (-(r (ix3 i k j))) := by
  pointwise [amaxR]
  rw [show Ideal.ofBits .f32 0xFF800000#32 = ⊥ by simp [Ideal.ofBits, Ideal.ieee]]
  rfl

/-- The exponent of a group, from its largest magnitude. -/
theorem eR_apply (a : Vec Ideal S16384x11 .f32) (i : Fin 16384) (k : Fin 11) : eR a (ix2 i k) = ex (a (ix2 i k) * c448) := by
  pointwise [eR, e1R, vR]
  have e2 : (Host.log (constant S_ .f32 0x40000000#32) : FVec Ideal S_ .f32) ix0 = Ideal.log ((2 : ℝ) : EReal) := congrArg Ideal.log ofBits_two
  simp only [id]
  rw [e2, ex]
  by_cases h : a (ix2 i k) = 0
  · rw [if_pos h, if_pos ((mul_c448_eq_zero _).2 h)]
  · rw [if_neg h, if_neg (fun h' => h ((mul_c448_eq_zero _).1 h'))]
    rfl

/-- Two to an exponent. -/
theorem sclR_apply (e : Vec Ideal S16384x11 .f32) (i : Fin 16384) (k : Fin 11) :
    sclR e (ix2 i k) = Ideal.pow ((2 : ℝ) : EReal) (e (ix2 i k)) := by
  pointwise [sclR]
  rw [ofBits_two]

/-- A value times its group's factor, clipped. -/
theorem clipR_apply (r : Vec Ideal S16384x11x128 .f32) (s : Vec Ideal S16384x11 .f32) (i : Fin 16384) (k : Fin 11) (j : Fin 128) :
    clipR r s (ix3 i k j) = min hi (max lo (r (ix3 i k j) * s (ix2 i k))) := by
  pointwise [clipR, spread]
  rfl

/-- A group's number at each of its columns. -/
theorem spread_apply (s : Vec Ideal S16384x11 .f32) (i : Fin 16384) (k : Fin 11) (j : Fin 128) :
    spread s (ix3 i k j) = s (ix2 i k) := by
  pointwise [spread]

/-- Groups laid side by side in a row. -/
theorem flat_apply (v : Vec Ideal S16384x11x128 .f32) (i : Fin 16384) (c : Fin 1408) :
    flat v (ix2 i c) = v (ix3 i (gOf c) (jOf c)) := by
  refine shapeCast_apply _ _ _ _ ?_
  rw [Shape.rowMajor_val_three, Shape.rowMajor_val_two]
  show (i.val * 11 + c.val / 128) * 128 + c.val % 128 = i.val * 1408 + c.val
  omega

end Cert.ReferenceIdeal.Host
end
-- ==== Proof.PRead.lean ====
module
public import proofs.«01_k».proof.Pre_scales_are_normal
public import proofs.«01_k».proof.Proof.RIdeal

/-! The condition read: where it is all ones, every group's magnitude over 448 is zero or gives normal scales. -/

@[expose] public section

set_option maxRecDepth 16384

noncomputable section

open Idealize.ShloMosaic RotQuant

namespace Cert.Pre_scales_are_normal

/-- The shape relations the condition states. -/
theorem facts : Facts where
  bitsLt_bf16_f32 := by decide
  shapeCasts_S8x2048x1408_S16384x11x128 := by decide
  bcast_S16384x11x128_S16384x11x128x1_0_1_2 := by decide
  bcast_S_S1x1 := by decide
  bcast_S1x1_S1x1x1x1_0_2 := by decide
  bcast_S2x2_S1x2x1x2_1_3 := by decide
  bcast_S1x1x1x1_S1x2x1x2_0_1_2_3 := by decide
  shapeCasts_S1x2x1x2_S2x2 := by decide
  bcast_S2x2_S2x1x2x1_0_2 := by decide
  bcast_S2x1x2x1_S2x2x2x2_0_1_2_3 := by decide
  bcast_S1x2x1x2_S2x2x2x2_0_1_2_3 := by decide
  shapeCasts_S2x2x2x2_S4x4 := by decide
  bcast_S4x4_S4x1x4x1_0_2 := by decide
  bcast_S4x1x4x1_S4x2x4x2_0_1_2_3 := by decide
  bcast_S1x2x1x2_S4x2x4x2_0_1_2_3 := by decide
  shapeCasts_S4x2x4x2_S8x8 := by decide
  bcast_S8x8_S8x1x8x1_0_2 := by decide
  bcast_S8x1x8x1_S8x2x8x2_0_1_2_3 := by decide
  bcast_S1x2x1x2_S8x2x8x2_0_1_2_3 := by decide
  shapeCasts_S8x2x8x2_S16x16 := by decide
  bcast_S16x16_S16x1x16x1_0_2 := by decide
  bcast_S16x1x16x1_S16x2x16x2_0_1_2_3 := by decide
  bcast_S1x2x1x2_S16x2x16x2_0_1_2_3 := by decide
  shapeCasts_S16x2x16x2_S32x32 := by decide
  bcast_S32x32_S32x1x32x1_0_2 := by decide
  bcast_S32x1x32x1_S32x2x32x2_0_1_2_3 := by decide
  bcast_S1x2x1x2_S32x2x32x2_0_1_2_3 := by decide
  shapeCasts_S32x2x32x2_S64x64 := by decide
  bcast_S64x64_S64x1x64x1_0_2 := by decide
  bcast_S64x1x64x1_S64x2x64x2_0_1_2_3 := by decide
  bcast_S1x2x1x2_S64x2x64x2_0_1_2_3 := by decide
  shapeCasts_S64x2x64x2_S128x128 := by decide
  bcast_S_S128x128 := by decide
  bcast_S128x128_S1x1x128x128_2_3 := by decide
  bcast_S16384x11x128x1_S16384x11x128x128_0_1_2_3 := by decide
  bcast_S1x1x128x128_S16384x11x128x128_0_1_2_3 := by decide
  reducesTo_S16384x11x128x128_S16384x11x128_d2 := by decide
  h_S_ := by decide
  reducesTo_S16384x11x128_S16384x11_d2 := by decide
  bcast_S_S16384x11 := by decide

end Cert.Pre_scales_are_normal

namespace Cert.ReferenceIdeal.Host

open Cert.ReferenceIdeal Cert.ReferenceIdeal.Gen

/-- The shape of all products. -/
abbrev S4g : Shape := ⟨4, ![16384, 11, 128, 128]⟩
/-- The shape of the groups, with a last axis to spread. -/
abbrev S4x : Shape := ⟨4, ![16384, 11, 128, 1]⟩
/-- The shape of the matrix, with two first axes to spread. -/
abbrev S4h : Shape := ⟨4, ![1, 1, 128, 128]⟩

/-- Groups times a matrix, as products summed over the third axis. -/
def psum (g : FVec Ideal S16384x11x128 .f32) (h : FVec Ideal S128x128 .f32) (h1 : S16384x11x128.BroadcastsInDim S4x ![0, 1, 2])
    (h2 : S128x128.BroadcastsInDim S4h ![2, 3]) (h3 : S4x.BroadcastsInDim S4g ![0, 1, 2, 3]) (h4 : S4h.BroadcastsInDim S4g ![0, 1, 2, 3])
    (h5 : S4g.ReducesTo [2] S16384x11x128) (h6 : 0 < S_.numel) : FVec Ideal S16384x11x128 .f32 :=
  Host.reduceAdd (mulf (broadcastInDim S4g ![0, 1, 2, 3] h3 (broadcastInDim S4x ![0, 1, 2] h1 g))
    (broadcastInDim S4g ![0, 1, 2, 3] h4 (broadcastInDim S4h ![2, 3] h2 h))) (constant S_ .f32 0x00000000#32) h5 h6

/-- An entry of the summed products. -/
theorem psum_apply (g : FVec Ideal S16384x11x128 .f32) (h : FVec Ideal S128x128 .f32) (h1 h2 h3 h4 h5 h6) (i : Fin 16384) (k : Fin 11) (j : Fin 128) :
    psum g h h1 h2 h3 h4 h5 h6 (ix3 i k j) = ∑ l : Fin 128, g (ix3 i k l) * h (ix2 l j) := by
  pointwise [psum]

/-- The test of one array of magnitudes over 448. -/
def test (v : FVec Ideal S16384x11 .f32) : IVec S16384x11 1 :=
  ori (cmpf .oeq v (broadcastInDim S16384x11 ![] bcast_S_S16384x11 (constant S_ .f32 0x00000000#32)))
    (andi (cmpf .oge v (broadcastInDim S16384x11 ![] bcast_S_S16384x11 (constant S_ .f32 0x00400000#32)))
      (cmpf .olt v (broadcastInDim S16384x11 ![] bcast_S_S16384x11 (constant S_ .f32 0x7E800000#32))))

/-- The lower bound is `2 ^ -127`. -/
theorem ofBits_lo : Ideal.ofBits .f32 0x00400000#32 = (((2 : ℝ) ^ (-127 : ℤ) : ℝ) : EReal) := by
  simp [Ideal.ofBits, Ideal.ieee, -EReal.coe_mul]
  norm_num

/-- The upper bound is `2 ^ 126`. -/
theorem ofBits_hi : Ideal.ofBits .f32 0x7E800000#32 = (((2 : ℝ) ^ (126 : ℤ) : ℝ) : EReal) := by
  simp [Ideal.ofBits, Ideal.ieee, -EReal.coe_mul]
  exact_mod_cast (by norm_num : (85070591730234615865843651857942052864 : ℝ) = 2 ^ 126)

/-- Where the test holds at a group, its `v` is zero or between the bounds. -/
theorem test_apply (v : FVec Ideal S16384x11 .f32) (i : Fin 16384) (k : Fin 11) (h : test v (ix2 i k) = 1#1) : Normal (v (ix2 i k)) := by
  revert h
  pointwise [test]
  rw [ofBits_lo, ofBits_hi, Normal]
  intro h
  by_cases h0 : v (ix2 i k) = 0
  · exact Or.inl h0
  by_cases h1 : (((2 : ℝ) ^ (-127 : ℤ) : ℝ) : EReal) ≤ v (ix2 i k)
  · by_cases h2 : v (ix2 i k) < (((2 : ℝ) ^ (126 : ℤ) : ℝ) : EReal)
    · exact Or.inr ⟨h1, h2⟩
    · rw [decide_eq_false h0, decide_eq_true h1, decide_eq_false h2] at h
      exact absurd h (by decide)
  · rw [decide_eq_false h0, decide_eq_false h1] at h
    cases hb : decide (v (ix2 i k) < (((2 : ℝ) ^ (126 : ℤ) : ℝ) : EReal)) <;> rw [hb] at h <;> exact absurd h (by decide)

/-- The condition is the test of the reference's magnitudes. -/
theorem fn_eq (x : FVec Ideal S8x2048x1408 .bf16) (w : FVec Ideal S1408x2688 .fp8e4m3) (ws : FVec Ideal S2688 .f32) :
    @Cert.Pre_scales_are_normal.fn Cert.Pre_scales_are_normal.facts Ideal _ x w ws
      = test (vR (F := Ideal) (amaxR (F := Ideal) (psum (grp (F := Ideal) x) (hadN (F := Ideal)) Cert.Pre_scales_are_normal.facts.bcast_S16384x11x128_S16384x11x128x1_0_1_2
          Cert.Pre_scales_are_normal.facts.bcast_S128x128_S1x1x128x128_2_3 Cert.Pre_scales_are_normal.facts.bcast_S16384x11x128x1_S16384x11x128x128_0_1_2_3
          Cert.Pre_scales_are_normal.facts.bcast_S1x1x128x128_S16384x11x128x128_0_1_2_3 Cert.Pre_scales_are_normal.facts.reducesTo_S16384x11x128x128_S16384x11x128_d2
          Cert.Pre_scales_are_normal.facts.h_S_))) := rfl

end Cert.ReferenceIdeal.Host
end
-- ==== Proof.KBlock.lean ====
module
public import proofs.«01_k».proof.Proof.Gen.KernelIdeal.Frame
public import Idealize.ShloMosaic.Lib.Pipeline.Value
public import Idealize.ShloMosaic.Lib.Tactic

/-! What one program of the kernel stores, as functions of the blocks it reads.

The 11 groups of a row block run through the same lines; the printed text cuts those lines into payloads
differently from group to group.  Here the lines are stated once (`gv`, `stp`, `expo`, `gb`, `gscl`, `ginv`,
`gcodes`, `gxa`) over a group's rotated `512 x 128` block, and every store of the program is shown to be one of
them. -/

@[expose] public section

noncomputable section

open Idealize.ShloMosaic Idealize.ShloMosaic.TcCoe Idealize.SL.Sem

namespace Cert.KernelIdeal.Blk

open Cert.KernelIdeal Cert.KernelIdeal.Gen

variable {F : FTy → Type} [FloatOps F]

/-- The offsets of a whole-block access are zero. -/
theorem hz : (![0, 0] : Fin 2 → Nat) = fun _ => 0 := funext fun a => by fin_cases a <;> rfl

/-- `v`: a row's largest magnitude, normalised, over 448. -/
def gv (s : FVec F S512x128 .f32) : FVec F S512x1 .f32 :=
  mulf (mulf (shapeCast S512x1 (multiReduction .maximumf [1] S512 (absf s) 0xFF800000#32 reduces_S512x128_S512 (.inl rfl) rfl) shapeCasts_S512_S512x1)
    (broadcast S512x1 (Scalar.ofBits .f32 0x3DB504F3#32))) (broadcast S512x1 (Scalar.ofBits .f32 0x3B124925#32))

/-- One step of the exponent search: add the bit `b` unless that passes `v`. -/
def stp (v : FVec F S512x1 .f32) (e : IVec S512x1 32) (b : BitVec 32) : IVec S512x1 32 :=
  select (cmpf .olt v (bitcastToFloat .f32 (shli (addi e (broadcast S512x1 b)) (broadcast S512x1 23#32)))) e (addi e (broadcast S512x1 b))

/-- The exponent field of `v`, by the eight steps. -/
def expo (v : FVec F S512x1 .f32) : IVec S512x1 32 :=
  stp v (stp v (stp v (stp v (stp v (stp v (stp v (stp v (broadcast S512x1 0#32) 128#32) 64#32) 32#32) 16#32) 8#32) 4#32) 2#32) 1#32

/-- The biased exponent taken: 126 where `v` is zero. -/
def gb (s : FVec F S512x128 .f32) : IVec S512x1 32 :=
  select (cmpf .oeq (gv s) (broadcast S512x1 (Scalar.ofBits .f32 0x00000000#32))) (broadcast S512x1 126#32) (expo (gv s))

/-- The scale of each row. -/
def gscl (s : FVec F S512x128 .f32) : FVec F S512x1 .f32 :=
  bitcastToFloat .f32 (shli (addi (gb s) (broadcast S512x1 1#32)) (broadcast S512x1 23#32))

/-- The inverse scale of each row. -/
def ginv (s : FVec F S512x128 .f32) : FVec F S512x1 .f32 :=
  bitcastToFloat .f32 (shli (subi (broadcast S512x1 253#32) (gb s)) (broadcast S512x1 23#32))

/-- The codes of a group. -/
def gcodes (s : FVec F S512x128 .f32) : FVec F S512x128 .fp8e4m3 :=
  truncf .fp8e4m3 (minimumf (broadcast S512x128 (Scalar.ofBits .f32 0x43E00000#32)) (maximumf (broadcast S512x128 (Scalar.ofBits .f32 0xC3E00000#32))
    (mulf (mulf s (broadcast S512x128 (Scalar.ofBits .f32 0x3DB504F3#32))) (broadcastTo S512x128 (ginv s) broadcasts_S512x1_S512x128)))) bitsLt_fp8e4m3_f32

/-- The codes of a group times their scales, as the matrix unit reads them. -/
def gxa (s : FVec F S512x128 .f32) : FVec F S512x128 .bf16 :=
  shapeCast S512x128 (mulf (extf .bf16 (gcodes s) bitsLt_fp8e4m3_bf16)
    (broadcastTo S512x128 (truncf .bf16 (gscl s) bitsLt_bf16_f32) broadcasts_S512x1_S512x128)) shapeCasts_S512x128_S512x128

/-- The lane number of each scale. -/
def glane : IVec S512x11 32 := iota .tc S512x11 32 [1] iota_S512x11_d1_w32

/-- Put the scale of lane `g` over what the lanes held. -/
def gsel (acc : FVec F S512x11 .f32) (g : BitVec 32) (s : FVec F S512x128 .f32) : FVec F S512x11 .f32 :=
  select (cmpi .eq glane (broadcast S512x11 g)) (broadcastTo S512x11 (shapeCast S512x1 (gscl s) shapeCasts_S512x1_S512x1) broadcasts_S512x1_S512x11) acc

/-- A pair of groups rotated by one product with the block-diagonal sign matrix. -/
def rot2 (X : Vec F S512x256 .bf16) (H : Vec F S256x256 .bf16) : FVec F S512x256 .f32 :=
  matmul dot_S512x256_S256x256_S512x256_1_0_0_1_n_n none (shapeCast S512x256 X shapeCasts_S512x256_S512x256) H (constant S512x256 .f32 0x00000000#32)

/-- The last group, rotated alone. -/
def rot1 (X : Vec F S512x128 .bf16) (H : Vec F S128x128 .bf16) : FVec F S512x128 .f32 :=
  matmul dot_S512x128_S128x128_S512x128_1_0_0_1_n_n none (shapeCast S512x128 X shapeCasts_S512x128_S512x128) H (constant S512x128 .f32 0x00000000#32)

/-- Group 0 of the block, rotated. -/
def sg0 (x0 : Vec F S512x1408 .bf16) (H : Vec F S256x256 .bf16) : FVec F S512x128 .f32 :=
  extractStridedSlice S512x128 ![0, 0] (rot2 (View.ld x0 (Rect.unit ![0, 0] S512x256.size inb_S512x1408_S512x256_0_0)) H) slices_S512x256_o0_0_S512x128

/-- Group 1 of the block, rotated. -/
def sg1 (x0 : Vec F S512x1408 .bf16) (H : Vec F S256x256 .bf16) : FVec F S512x128 .f32 :=
  extractStridedSlice S512x128 ![0, 128] (rot2 (View.ld x0 (Rect.unit ![0, 0] S512x256.size inb_S512x1408_S512x256_0_0)) H) slices_S512x256_o0_128_S512x128

/-- Group 2 of the block, rotated. -/
def sg2 (x0 : Vec F S512x1408 .bf16) (H : Vec F S256x256 .bf16) : FVec F S512x128 .f32 :=
  extractStridedSlice S512x128 ![0, 0] (rot2 (View.ld x0 (Rect.unit ![0, 256] S512x256.size inb_S512x1408_S512x256_0_256)) H) slices_S512x256_o0_0_S512x128

/-- Group 3 of the block, rotated. -/
def sg3 (x0 : Vec F S512x1408 .bf16) (H : Vec F S256x256 .bf16) : FVec F S512x128 .f32 :=
  extractStridedSlice S512x128 ![0, 128] (rot2 (View.ld x0 (Rect.unit ![0, 256] S512x256.size inb_S512x1408_S512x256_0_256)) H) slices_S512x256_o0_128_S512x128

/-- Group 4 of the block, rotated. -/
def sg4 (x0 : Vec F S512x1408 .bf16) (H : Vec F S256x256 .bf16) : FVec F S512x128 .f32 :=
  extractStridedSlice S512x128 ![0, 0] (rot2 (View.ld x0 (Rect.unit ![0, 512] S512x256.size inb_S512x1408_S512x256_0_512)) H) slices_S512x256_o0_0_S512x128

/-- Group 5 of the block, rotated. -/
def sg5 (x0 : Vec F S512x1408 .bf16) (H : Vec F S256x256 .bf16) : FVec F S512x128 .f32 :=
  extractStridedSlice S512x128 ![0, 128] (rot2 (View.ld x0 (Rect.unit ![0, 512] S512x256.size inb_S512x1408_S512x256_0_512)) H) slices_S512x256_o0_128_S512x128

/-- Group 6 of the block, rotated. -/
def sg6 (x0 : Vec F S512x1408 .bf16) (H : Vec F S256x256 .bf16) : FVec F S512x128 .f32 :=
  extractStridedSlice S512x128 ![0, 0] (rot2 (View.ld x0 (Rect.unit ![0, 768] S512x256.size inb_S512x1408_S512x256_0_768)) H) slices_S512x256_o0_0_S512x128

/-- Group 7 of the block, rotated. -/
def sg7 (x0 : Vec F S512x1408 .bf16) (H : Vec F S256x256 .bf16) : FVec F S512x128 .f32 :=
  extractStridedSlice S512x128 ![0, 128] (rot2 (View.ld x0 (Rect.unit ![0, 768] S512x256.size inb_S512x1408_S512x256_0_768)) H) slices_S512x256_o0_128_S512x128

/-- Group 8 of the block, rotated. -/
def sg8 (x0 : Vec F S512x1408 .bf16) (H : Vec F S256x256 .bf16) : FVec F S512x128 .f32 :=
  extractStridedSlice S512x128 ![0, 0] (rot2 (View.ld x0 (Rect.unit ![0, 1024] S512x256.size inb_S512x1408_S512x256_0_1024)) H) slices_S512x256_o0_0_S512x128

/-- Group 9 of the block, rotated. -/
def sg9 (x0 : Vec F S512x1408 .bf16) (H : Vec F S256x256 .bf16) : FVec F S512x128 .f32 :=
  extractStridedSlice S512x128 ![0, 128] (rot2 (View.ld x0 (Rect.unit ![0, 1024] S512x256.size inb_S512x1408_S512x256_0_1024)) H) slices_S512x256_o0_128_S512x128

/-- Group 10 of the block, rotated. -/
def sg10 (x0 : Vec F S512x1408 .bf16) (H : Vec F S256x256 .bf16) : FVec F S512x128 .f32 :=
  rot1 (View.ld x0 (Rect.unit ![0, 1280] S512x128.size inb_S512x1408_S512x128_0_1280))
    (View.ld H (Rect.unit ![0, 0] S128x128.size inb_S256x256_S128x128_0_0))

/-- The stores of the codes, last first. -/
def codesL (x0 : Vec F S512x1408 .bf16) (H : Vec F S256x256 .bf16) : List (View.Piece (Elt F) S512x1408 .fp8e4m3) :=
   [(⟨Rect.unit ![0, 1280] S512x128.size inb_S512x1408_S512x128_0_1280, gcodes (sg10 x0 H)⟩ : View.Piece (Elt F) S512x1408 .fp8e4m3),
    (⟨Rect.unit ![0, 1152] S512x128.size inb_S512x1408_S512x128_0_1152, gcodes (sg9 x0 H)⟩ : View.Piece (Elt F) S512x1408 .fp8e4m3),
    (⟨Rect.unit ![0, 1024] S512x128.size inb_S512x1408_S512x128_0_1024, gcodes (sg8 x0 H)⟩ : View.Piece (Elt F) S512x1408 .fp8e4m3),
    (⟨Rect.unit ![0, 896] S512x128.size inb_S512x1408_S512x128_0_896, gcodes (sg7 x0 H)⟩ : View.Piece (Elt F) S512x1408 .fp8e4m3),
    (⟨Rect.unit ![0, 768] S512x128.size inb_S512x1408_S512x128_0_768, gcodes (sg6 x0 H)⟩ : View.Piece (Elt F) S512x1408 .fp8e4m3),
    (⟨Rect.unit ![0, 640] S512x128.size inb_S512x1408_S512x128_0_640, gcodes (sg5 x0 H)⟩ : View.Piece (Elt F) S512x1408 .fp8e4m3),
    (⟨Rect.unit ![0, 512] S512x128.size inb_S512x1408_S512x128_0_512, gcodes (sg4 x0 H)⟩ : View.Piece (Elt F) S512x1408 .fp8e4m3),
    (⟨Rect.unit ![0, 384] S512x128.size inb_S512x1408_S512x128_0_384, gcodes (sg3 x0 H)⟩ : View.Piece (Elt F) S512x1408 .fp8e4m3),
    (⟨Rect.unit ![0, 256] S512x128.size inb_S512x1408_S512x128_0_256, gcodes (sg2 x0 H)⟩ : View.Piece (Elt F) S512x1408 .fp8e4m3),
    (⟨Rect.unit ![0, 128] S512x128.size inb_S512x1408_S512x128_0_128, gcodes (sg1 x0 H)⟩ : View.Piece (Elt F) S512x1408 .fp8e4m3),
    (⟨Rect.unit ![0, 0] S512x128.size inb_S512x1408_S512x128_0_0, gcodes (sg0 x0 H)⟩ : View.Piece (Elt F) S512x1408 .fp8e4m3)]

/-- The stores of the scaled codes, last first. -/
def xaL (x0 : Vec F S512x1408 .bf16) (H : Vec F S256x256 .bf16) : List (View.Piece (Elt F) S512x1408 .bf16) :=
   [(⟨Rect.unit ![0, 1280] S512x128.size inb_S512x1408_S512x128_0_1280, gxa (sg10 x0 H)⟩ : View.Piece (Elt F) S512x1408 .bf16),
    (⟨Rect.unit ![0, 1152] S512x128.size inb_S512x1408_S512x128_0_1152, gxa (sg9 x0 H)⟩ : View.Piece (Elt F) S512x1408 .bf16),
    (⟨Rect.unit ![0, 1024] S512x128.size inb_S512x1408_S512x128_0_1024, gxa (sg8 x0 H)⟩ : View.Piece (Elt F) S512x1408 .bf16),
    (⟨Rect.unit ![0, 896] S512x128.size inb_S512x1408_S512x128_0_896, gxa (sg7 x0 H)⟩ : View.Piece (Elt F) S512x1408 .bf16),
    (⟨Rect.unit ![0, 768] S512x128.size inb_S512x1408_S512x128_0_768, gxa (sg6 x0 H)⟩ : View.Piece (Elt F) S512x1408 .bf16),
    (⟨Rect.unit ![0, 640] S512x128.size inb_S512x1408_S512x128_0_640, gxa (sg5 x0 H)⟩ : View.Piece (Elt F) S512x1408 .bf16),
    (⟨Rect.unit ![0, 512] S512x128.size inb_S512x1408_S512x128_0_512, gxa (sg4 x0 H)⟩ : View.Piece (Elt F) S512x1408 .bf16),
    (⟨Rect.unit ![0, 384] S512x128.size inb_S512x1408_S512x128_0_384, gxa (sg3 x0 H)⟩ : View.Piece (Elt F) S512x1408 .bf16),
    (⟨Rect.unit ![0, 256] S512x128.size inb_S512x1408_S512x128_0_256, gxa (sg2 x0 H)⟩ : View.Piece (Elt F) S512x1408 .bf16),
    (⟨Rect.unit ![0, 128] S512x128.size inb_S512x1408_S512x128_0_128, gxa (sg1 x0 H)⟩ : View.Piece (Elt F) S512x1408 .bf16),
    (⟨Rect.unit ![0, 0] S512x128.size inb_S512x1408_S512x128_0_0, gxa (sg0 x0 H)⟩ : View.Piece (Elt F) S512x1408 .bf16)]

/-- The scales of the block, after the eleven lanes are set. -/
def scaleB (x0 : Vec F S512x1408 .bf16) (H : Vec F S256x256 .bf16) : FVec F S512x11 .f32 :=
  gsel (gsel (gsel (gsel (gsel (gsel (gsel (gsel (gsel (gsel (gsel (broadcast S512x11 (Scalar.ofBits .f32 0x00000000#32)) 0#32 (sg0 x0 H)) 1#32 (sg1 x0 H)) 2#32 (sg2 x0 H)) 3#32 (sg3 x0 H)) 4#32 (sg4 x0 H)) 5#32 (sg5 x0 H)) 6#32 (sg6 x0 H)) 7#32 (sg7 x0 H)) 8#32 (sg8 x0 H)) 9#32 (sg9 x0 H)) 10#32 (sg10 x0 H)

/-- The sign matrix the first program stores. -/
def signH : Vec F S256x256 .bf16 :=
  k0_pay8 (iota .tc S256x256 32 [0] iota_S256x256_d0_w32) (iota .tc S256x256 32 [1] iota_S256x256_d1_w32) k0_pay4 k0_pay5 k0_pay6 k0_pay7

/-- Reading any part of a buffer one store filled reads that part of what was stored. -/
theorem rc {e : EltTy} {S : Shape} {sp : Space} (v : View sig .tc sp S e) {off : Fin S.rank → Nat} (h : off = fun _ => 0)
    (inb : ∀ a, off a + S.size a ≤ S.size a) (w : S.Idx → Elt F e) (B : Rect S) :
    v.readCov [(⟨Rect.unit off S.size inb, w⟩ : View.Piece (Elt F) S e)] B.toLoadRect = View.ld w B := by
  rw [View.readCov_eq_canon_ld _ _ _ (fun y => ⟨_, List.mem_singleton_self _, View.mem_set_unit_zero h inb y⟩), View.canon_unit_zero h]

/-- The scaled codes' stores fill their buffer. -/
theorem xaL_cover (x0 : Vec F S512x1408 .bf16) (H : Vec F S256x256 .bf16) (y : S512x1408.Idx) :
    ∃ pc ∈ xaL x0 H, y ∈ pc.1.set :=
  View.cover_of_tiledL (xaL x0 H) S512x128.size (by sl_kernel_rfl) y

/-- The codes' stores fill their buffer. -/
theorem codesL_cover (x0 : Vec F S512x1408 .bf16) (H : Vec F S256x256 .bf16) (y : S512x1408.Idx) :
    ∃ pc ∈ codesL x0 H, y ∈ pc.1.set :=
  View.cover_of_tiledL (codesL x0 H) S512x128.size (by sl_kernel_rfl) y

/-- The product of a row block: what the first result's block holds. -/
def yB (x0 : Vec F S512x1408 .bf16) (H : Vec F S256x256 .bf16) (W : Vec F S1408x2688 .bf16) (ws : Vec F S1x2688 .f32) : Vec F S512x2688 .bf16 :=
  k0_pay2 (View.canon (xaL x0 H)) W ws

/-- Reading the scaled codes back reads what their stores left. -/
theorem rcXa {sp : Space} (v : View sig .tc sp S512x1408 .bf16) (x0 : Vec F S512x1408 .bf16) (H : Vec F S256x256 .bf16) :
    v.readCov (xaL x0 H) (Rect.unit ![0, 0] S512x1408.size inb_S512x1408_S512x1408_0_0).toLoadRect = View.canon (xaL x0 H) := by
  rw [View.readCov_eq_canon_ld _ _ _ (xaL_cover x0 H), View.ld_unit_zero (S := S512x1408) hz]

/-- A later program leaves the groups' codes. -/
theorem codes_B (c : Dev nD) (i : grid0.Coords) (arg1 : Memref sig .tc .vmem S512x1408 .bf16) (harg1 : arg1.IsWhole) (arg2 : Memref sig .tc .vmem S1408x2688 .fp8e4m3) (harg2 : arg2.IsWhole) (arg3 : Memref sig .tc .vmem S1x2688 .f32) (harg3 : arg3.IsWhole) (arg4 : Memref sig .tc .vmem S512x2688 .bf16) (harg4 : arg4.IsWhole) (arg5 : Memref sig .tc .vmem S512x1408 .fp8e4m3) (harg5 : arg5.IsWhole) (arg6 : Memref sig .tc .vmem S512x11 .f32) (harg6 : arg6.IsWhole) (arg7 : Memref sig .tc .vmem S1408x2688 .bf16) (harg7 : arg7.IsWhole) (arg8 : Memref sig .tc .vmem S256x256 .bf16) (harg8 : arg8.IsWhole) (arg9 : Memref sig .tc .vmem S512x1408 .bf16) (harg9 : arg9.IsWhole) (hc0 : ¬cond0_0 i)
    (x0 : Vec F S512x1408 .bf16) (x1 : Vec F S1408x2688 .fp8e4m3) (x2 : Vec F S1x2688 .f32) (xs0 : Vec F S1408x2688 .bf16) (xs1 : Vec F S256x256 .bf16) :
    out0_B_4 c i arg1 harg1 arg2 harg2 arg3 harg3 arg4 harg4 arg5 harg5 arg6 harg6 arg7 harg7 arg8 harg8 arg9 harg9 hc0 x0 x1 x2 xs0 xs1 = View.canon (codesL x0 xs1) := by
  unfold out0_B_4
  rw [View.read_writes_eq_canon _ _ _ (cover0_B_4 c i arg1 harg1 arg2 harg2 arg3 harg3 arg4 harg4 arg5 harg5 arg6 harg6 arg7 harg7 arg8 harg8 arg9 harg9 hc0 x0 x1 x2 xs0 xs1)]
  unfold kernelRun0_B
  dsimp only
  sl_unfold_words
  simp only [View.readAt_eq_ld, harg1.read_unread, harg3.read_unread, harg7.read_unread, harg8.read_unread, View.ld_unit_zero (S := S256x256) hz,
    View.ld_unit_zero (S := S1408x2688) hz, View.ld_unit_zero (S := S1x2688) hz]
  rfl

/-- A later program leaves the scales. -/
theorem scale_B (c : Dev nD) (i : grid0.Coords) (arg1 : Memref sig .tc .vmem S512x1408 .bf16) (harg1 : arg1.IsWhole) (arg2 : Memref sig .tc .vmem S1408x2688 .fp8e4m3) (harg2 : arg2.IsWhole) (arg3 : Memref sig .tc .vmem S1x2688 .f32) (harg3 : arg3.IsWhole) (arg4 : Memref sig .tc .vmem S512x2688 .bf16) (harg4 : arg4.IsWhole) (arg5 : Memref sig .tc .vmem S512x1408 .fp8e4m3) (harg5 : arg5.IsWhole) (arg6 : Memref sig .tc .vmem S512x11 .f32) (harg6 : arg6.IsWhole) (arg7 : Memref sig .tc .vmem S1408x2688 .bf16) (harg7 : arg7.IsWhole) (arg8 : Memref sig .tc .vmem S256x256 .bf16) (harg8 : arg8.IsWhole) (arg9 : Memref sig .tc .vmem S512x1408 .bf16) (harg9 : arg9.IsWhole) (hc0 : ¬cond0_0 i)
    (x0 : Vec F S512x1408 .bf16) (x1 : Vec F S1408x2688 .fp8e4m3) (x2 : Vec F S1x2688 .f32) (xs0 : Vec F S1408x2688 .bf16) (xs1 : Vec F S256x256 .bf16) :
    out0_B_5 c i arg1 harg1 arg2 harg2 arg3 harg3 arg4 harg4 arg5 harg5 arg6 harg6 arg7 harg7 arg8 harg8 arg9 harg9 hc0 x0 x1 x2 xs0 xs1 = scaleB x0 xs1 := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 xs0 xs1)]
  unfold kernelRun0_B
  dsimp only
  rw [View.canon_unit_zero (S := S512x11) hz]
  sl_unfold_words
  simp only [View.readAt_eq_ld, harg1.read_unread, harg3.read_unread, harg7.read_unread, harg8.read_unread, View.ld_unit_zero (S := S256x256) hz,
    View.ld_unit_zero (S := S1408x2688) hz, View.ld_unit_zero (S := S1x2688) hz]
  rfl

/-- A later program leaves the product. -/
theorem y_B (c : Dev nD) (i : grid0.Coords) (arg1 : Memref sig .tc .vmem S512x1408 .bf16) (harg1 : arg1.IsWhole) (arg2 : Memref sig .tc .vmem S1408x2688 .fp8e4m3) (harg2 : arg2.IsWhole) (arg3 : Memref sig .tc .vmem S1x2688 .f32) (harg3 : arg3.IsWhole) (arg4 : Memref sig .tc .vmem S512x2688 .bf16) (harg4 : arg4.IsWhole) (arg5 : Memref sig .tc .vmem S512x1408 .fp8e4m3) (harg5 : arg5.IsWhole) (arg6 : Memref sig .tc .vmem S512x11 .f32) (harg6 : arg6.IsWhole) (arg7 : Memref sig .tc .vmem S1408x2688 .bf16) (harg7 : arg7.IsWhole) (arg8 : Memref sig .tc .vmem S256x256 .bf16) (harg8 : arg8.IsWhole) (arg9 : Memref sig .tc .vmem S512x1408 .bf16) (harg9 : arg9.IsWhole) (hc0 : ¬cond0_0 i)
    (x0 : Vec F S512x1408 .bf16) (x1 : Vec F S1408x2688 .fp8e4m3) (x2 : Vec F S1x2688 .f32) (xs0 : Vec F S1408x2688 .bf16) (xs1 : Vec F S256x256 .bf16) :
    out0_B_3 c i arg1 harg1 arg2 harg2 arg3 harg3 arg4 harg4 arg5 harg5 arg6 harg6 arg7 harg7 arg8 harg8 arg9 harg9 hc0 x0 x1 x2 xs0 xs1 = yB x0 xs1 xs0 x2 := by
  unfold out0_B_3
  rw [View.read_writes_eq_canon _ _ _ (cover0_B_3 c i arg1 harg1 arg2 harg2 arg3 harg3 arg4 harg4 arg5 harg5 arg6 harg6 arg7 harg7 arg8 harg8 arg9 harg9 hc0 x0 x1 x2 xs0 xs1)]
  unfold kernelRun0_B
  dsimp only
  rw [View.canon_unit_zero (S := S512x2688) hz]
  sl_unfold_words
  simp only [View.readAt_eq_ld, harg1.read_unread, harg3.read_unread, harg7.read_unread, harg8.read_unread, View.ld_unit_zero (S := S256x256) hz,
    View.ld_unit_zero (S := S1408x2688) hz, View.ld_unit_zero (S := S1x2688) hz]
  exact congrArg (fun t => k0_pay2 t xs0 x2) (rcXa arg9.view x0 xs1)

/-- The first program leaves the groups' codes. -/
theorem codes_A (c : Dev nD) (i : grid0.Coords) (arg1 : Memref sig .tc .vmem S512x1408 .bf16) (harg1 : arg1.IsWhole) (arg2 : Memref sig .tc .vmem S1408x2688 .fp8e4m3) (harg2 : arg2.IsWhole) (arg3 : Memref sig .tc .vmem S1x2688 .f32) (harg3 : arg3.IsWhole) (arg4 : Memref sig .tc .vmem S512x2688 .bf16) (harg4 : arg4.IsWhole) (arg5 : Memref sig .tc .vmem S512x1408 .fp8e4m3) (harg5 : arg5.IsWhole) (arg6 : Memref sig .tc .vmem S512x11 .f32) (harg6 : arg6.IsWhole) (arg7 : Memref sig .tc .vmem S1408x2688 .bf16) (harg7 : arg7.IsWhole) (arg8 : Memref sig .tc .vmem S256x256 .bf16) (harg8 : arg8.IsWhole) (arg9 : Memref sig .tc .vmem S512x1408 .bf16) (harg9 : arg9.IsWhole) (hc0 : cond0_0 i)
    (x0 : Vec F S512x1408 .bf16) (x1 : Vec F S1408x2688 .fp8e4m3) (x2 : Vec F S1x2688 .f32) :
    out0_A_4 c i arg1 harg1 arg2 harg2 arg3 harg3 arg4 harg4 arg5 harg5 arg6 harg6 arg7 harg7 arg8 harg8 arg9 harg9 hc0 x0 x1 x2 = View.canon (codesL x0 signH) := by
  unfold out0_A_4
  rw [View.read_writes_eq_canon _ _ _ (cover0_A_4 c i arg1 harg1 arg2 harg2 arg3 harg3 arg4 harg4 arg5 harg5 arg6 harg6 arg7 harg7 arg8 harg8 arg9 harg9 hc0 x0 x1 x2)]
  unfold kernelRun0_A
  dsimp only
  sl_unfold_words
  simp only [View.readAt_eq_ld, harg1.read_unread, harg2.read_unread, harg3.read_unread, rc (S := S256x256) _ hz, rc (S := S1408x2688) _ hz,
    View.ld_unit_zero (S := S256x256) hz, View.ld_unit_zero (S := S1408x2688) hz, View.ld_unit_zero (S := S1x2688) hz]
  rfl

/-- The first program leaves the scales. -/
theorem scale_A (c : Dev nD) (i : grid0.Coords) (arg1 : Memref sig .tc .vmem S512x1408 .bf16) (harg1 : arg1.IsWhole) (arg2 : Memref sig .tc .vmem S1408x2688 .fp8e4m3) (harg2 : arg2.IsWhole) (arg3 : Memref sig .tc .vmem S1x2688 .f32) (harg3 : arg3.IsWhole) (arg4 : Memref sig .tc .vmem S512x2688 .bf16) (harg4 : arg4.IsWhole) (arg5 : Memref sig .tc .vmem S512x1408 .fp8e4m3) (harg5 : arg5.IsWhole) (arg6 : Memref sig .tc .vmem S512x11 .f32) (harg6 : arg6.IsWhole) (arg7 : Memref sig .tc .vmem S1408x2688 .bf16) (harg7 : arg7.IsWhole) (arg8 : Memref sig .tc .vmem S256x256 .bf16) (harg8 : arg8.IsWhole) (arg9 : Memref sig .tc .vmem S512x1408 .bf16) (harg9 : arg9.IsWhole) (hc0 : cond0_0 i)
    (x0 : Vec F S512x1408 .bf16) (x1 : Vec F S1408x2688 .fp8e4m3) (x2 : Vec F S1x2688 .f32) :
    out0_A_5 c i arg1 harg1 arg2 harg2 arg3 harg3 arg4 harg4 arg5 harg5 arg6 harg6 arg7 harg7 arg8 harg8 arg9 harg9 hc0 x0 x1 x2 = scaleB x0 signH := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2)]
  unfold kernelRun0_A
  dsimp only
  rw [View.canon_unit_zero (S := S512x11) hz]
  sl_unfold_words
  simp only [View.readAt_eq_ld, harg1.read_unread, harg2.read_unread, harg3.read_unread, rc (S := S256x256) _ hz, rc (S := S1408x2688) _ hz,
    View.ld_unit_zero (S := S256x256) hz, View.ld_unit_zero (S := S1408x2688) hz, View.ld_unit_zero (S := S1x2688) hz]
  rfl

/-- The first program leaves the product. -/
theorem y_A (c : Dev nD) (i : grid0.Coords) (arg1 : Memref sig .tc .vmem S512x1408 .bf16) (harg1 : arg1.IsWhole) (arg2 : Memref sig .tc .vmem S1408x2688 .fp8e4m3) (harg2 : arg2.IsWhole) (arg3 : Memref sig .tc .vmem S1x2688 .f32) (harg3 : arg3.IsWhole) (arg4 : Memref sig .tc .vmem S512x2688 .bf16) (harg4 : arg4.IsWhole) (arg5 : Memref sig .tc .vmem S512x1408 .fp8e4m3) (harg5 : arg5.IsWhole) (arg6 : Memref sig .tc .vmem S512x11 .f32) (harg6 : arg6.IsWhole) (arg7 : Memref sig .tc .vmem S1408x2688 .bf16) (harg7 : arg7.IsWhole) (arg8 : Memref sig .tc .vmem S256x256 .bf16) (harg8 : arg8.IsWhole) (arg9 : Memref sig .tc .vmem S512x1408 .bf16) (harg9 : arg9.IsWhole) (hc0 : cond0_0 i)
    (x0 : Vec F S512x1408 .bf16) (x1 : Vec F S1408x2688 .fp8e4m3) (x2 : Vec F S1x2688 .f32) :
    out0_A_3 c i arg1 harg1 arg2 harg2 arg3 harg3 arg4 harg4 arg5 harg5 arg6 harg6 arg7 harg7 arg8 harg8 arg9 harg9 hc0 x0 x1 x2 = yB x0 signH (k0_pay3 x1) x2 := by
  unfold out0_A_3
  rw [View.read_writes_eq_canon _ _ _ (cover0_A_3 c i arg1 harg1 arg2 harg2 arg3 harg3 arg4 harg4 arg5 harg5 arg6 harg6 arg7 harg7 arg8 harg8 arg9 harg9 hc0 x0 x1 x2)]
  unfold kernelRun0_A
  dsimp only
  rw [View.canon_unit_zero (S := S512x2688) hz]
  sl_unfold_words
  simp only [View.readAt_eq_ld, harg1.read_unread, harg2.read_unread, harg3.read_unread, rc (S := S256x256) _ hz, rc (S := S1408x2688) _ hz,
    View.ld_unit_zero (S := S256x256) hz, View.ld_unit_zero (S := S1408x2688) hz, View.ld_unit_zero (S := S1x2688) hz]
  exact congrArg (fun t => k0_pay2 t (k0_pay3 x1) x2) (rcXa arg9.view x0 signH)

/-- The first program leaves the weight codes in their scratch. -/
theorem w_A (c : Dev nD) (i : grid0.Coords) (arg1 : Memref sig .tc .vmem S512x1408 .bf16) (harg1 : arg1.IsWhole) (arg2 : Memref sig .tc .vmem S1408x2688 .fp8e4m3) (harg2 : arg2.IsWhole) (arg3 : Memref sig .tc .vmem S1x2688 .f32) (harg3 : arg3.IsWhole) (arg4 : Memref sig .tc .vmem S512x2688 .bf16) (harg4 : arg4.IsWhole) (arg5 : Memref sig .tc .vmem S512x1408 .fp8e4m3) (harg5 : arg5.IsWhole) (arg6 : Memref sig .tc .vmem S512x11 .f32) (harg6 : arg6.IsWhole) (arg7 : Memref sig .tc .vmem S1408x2688 .bf16) (harg7 : arg7.IsWhole) (arg8 : Memref sig .tc .vmem S256x256 .bf16) (harg8 : arg8.IsWhole) (arg9 : Memref sig .tc .vmem S512x1408 .bf16) (harg9 : arg9.IsWhole) (hc0 : cond0_0 i)
    (x0 : Vec F S512x1408 .bf16) (x1 : Vec F S1408x2688 .fp8e4m3) (x2 : Vec F S1x2688 .f32) :
    sout0_A_0 c i arg1 harg1 arg2 harg2 arg3 harg3 arg4 harg4 arg5 harg5 arg6 harg6 arg7 harg7 arg8 harg8 arg9 harg9 hc0 x0 x1 x2 = k0_pay3 x1 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2)]
  unfold kernelRun0_A
  dsimp only
  sl_unfold_words
  rw [View.canon_unit_zero (S := S1408x2688) hz]
  simp only [View.readAt_eq_ld, harg2.read_unread, View.ld_unit_zero (S := S1408x2688) hz]

/-- The first program leaves the sign matrix in its scratch. -/
theorem h_A (c : Dev nD) (i : grid0.Coords) (arg1 : Memref sig .tc .vmem S512x1408 .bf16) (harg1 : arg1.IsWhole) (arg2 : Memref sig .tc .vmem S1408x2688 .fp8e4m3) (harg2 : arg2.IsWhole) (arg3 : Memref sig .tc .vmem S1x2688 .f32) (harg3 : arg3.IsWhole) (arg4 : Memref sig .tc .vmem S512x2688 .bf16) (harg4 : arg4.IsWhole) (arg5 : Memref sig .tc .vmem S512x1408 .fp8e4m3) (harg5 : arg5.IsWhole) (arg6 : Memref sig .tc .vmem S512x11 .f32) (harg6 : arg6.IsWhole) (arg7 : Memref sig .tc .vmem S1408x2688 .bf16) (harg7 : arg7.IsWhole) (arg8 : Memref sig .tc .vmem S256x256 .bf16) (harg8 : arg8.IsWhole) (arg9 : Memref sig .tc .vmem S512x1408 .bf16) (harg9 : arg9.IsWhole) (hc0 : cond0_0 i)
    (x0 : Vec F S512x1408 .bf16) (x1 : Vec F S1408x2688 .fp8e4m3) (x2 : Vec F S1x2688 .f32) :
    sout0_A_1 c i arg1 harg1 arg2 harg2 arg3 harg3 arg4 harg4 arg5 harg5 arg6 harg6 arg7 harg7 arg8 harg8 arg9 harg9 hc0 x0 x1 x2 = signH := by
  unfold sout0_A_1
  rw [View.read_writes_eq_canon _ _ _ (scover0_A_1 c i arg1 harg1 arg2 harg2 arg3 harg3 arg4 harg4 arg5 harg5 arg6 harg6 arg7 harg7 arg8 harg8 arg9 harg9 hc0 x0 x1 x2)]
  unfold kernelRun0_A
  dsimp only
  sl_unfold_words
  rw [View.canon_unit_zero (S := S256x256) hz]
  rfl

end Cert.KernelIdeal.Blk

end
-- ==== Proof.KSign.lean ====
module
public import proofs.«01_k».proof.Proof.KBlock
public import proofs.«01_k».proof.Proof.Spec
public import Idealize.ShloMosaic.Lib.Pointwise

/-! The kernel's sign matrix at the extended reals, and the rotated groups of a row block. -/

@[expose] public section

set_option maxRecDepth 16384

noncomputable section

open Idealize.ShloMosaic

namespace Cert.KernelIdeal.Blk

open Cert.KernelIdeal Cert.KernelIdeal.Gen

/-- The half a row or column number falls in, as the kernel's floor division by 128 spells it. -/
def halfW (i : BitVec 32) : BitVec 32 :=
  Scalar.select
    (IntOp.andi
      (IntOp.cmpi .ne
        (IntOp.subi (BitVec.setWidth 32 (IntOp.cmpi .sgt i 0#32)) (BitVec.setWidth 32 (IntOp.cmpi .slt i 0#32)))
        (Scalar.subi (Scalar.extui (Scalar.cmpi .sgt 128#32 0#32)) (Scalar.extui (Scalar.cmpi .slt 128#32 0#32))))
      (IntOp.cmpi .ne (IntOp.remsi .vector i 128#32) 0#32))
    (IntOp.subi (IntOp.divsi .vector i 128#32) 1#32) (IntOp.divsi .vector i 128#32)

/-- The sign of the shared bits, as the kernel's folding of the bits spells it. -/
def signW (p : BitVec 32) : BitVec 32 :=
  let a := IntOp.andi p 127#32
  let b := IntOp.xori a (IntOp.shrsi .vector a 4#32)
  let d := IntOp.xori b (IntOp.shrsi .vector b 2#32)
  IntOp.subi 1#32 (IntOp.muli 2#32 (IntOp.andi (IntOp.xori d (IntOp.shrsi .vector d 1#32)) 1#32))

/-- Which half of the matrix an index lies in, as the kernel computes it. -/
theorem halfW_eq : ∀ i : Fin 256, halfW (BitVec.ofNat 32 i.val) = BitVec.ofNat 32 (i.val / 128) := by
  decide +kernel

/-- The folded bits give the sign of the parity of the low seven bits. -/
theorem signW_eq : ∀ p : Fin 256, (signW (BitVec.ofNat 32 p.val)).toInt = if RotQuant.par 7 p.val then -1 else 1 := by
  decide +kernel

/-- The sign matrix of the kernel: two copies of the sign matrix on the diagonal. -/
theorem signH_apply (i j : Fin 256) :
    signH (F := Ideal) (ix2 i j) = if i.val / 128 = j.val / 128 then ((RotQuant.had 7 i j : ℝ) : EReal) else 0 := by
  have hr : signH (F := Ideal) (ix2 i j)
      = Scalar.select (IntOp.cmpi .eq (halfW (BitVec.ofNat 32 i.val)) (halfW (BitVec.ofNat 32 j.val)))
          (FloatOps.sitofp (F := Ideal) .f32 (signW (IntOp.andi (BitVec.ofNat 32 i.val) (BitVec.ofNat 32 j.val)))) (0 : EReal) := by
    pointwise [signH, k0_pay8, k0_pay4, k0_pay5, k0_pay6, k0_pay7]
    rfl
  rw [hr, halfW_eq, halfW_eq]
  have hp : IntOp.andi (BitVec.ofNat 32 i.val) (BitVec.ofNat 32 j.val) = BitVec.ofNat 32 (i.val &&& j.val) := by
    show BitVec.ofNat 32 i.val &&& BitVec.ofNat 32 j.val = _
    apply BitVec.eq_of_toNat_eq
    have := Nat.and_le_left (n := i.val) (m := j.val)
    rw [BitVec.toNat_and, BitVec.toNat_ofNat, BitVec.toNat_ofNat, BitVec.toNat_ofNat, Nat.mod_eq_of_lt (by omega), Nat.mod_eq_of_lt (by omega), Nat.mod_eq_of_lt (by omega)]
  have hs : FloatOps.sitofp (F := Ideal) .f32 (signW (BitVec.ofNat 32 (i.val &&& j.val))) = ((RotQuant.had 7 i j : ℝ) : EReal) := by
    have hlt : i.val &&& j.val < 256 := lt_of_le_of_lt Nat.and_le_left i.isLt
    show (((signW (BitVec.ofNat 32 (i.val &&& j.val))).toInt : ℝ) : EReal) = _
    rw [signW_eq ⟨i.val &&& j.val, hlt⟩, RotQuant.had_eq_par]
    split <;> simp
  rw [hp, hs]
  by_cases h : i.val / 128 = j.val / 128
  · rw [if_pos h, h]
    simp [Scalar.select, IntOp.cmpi]
  · rw [if_neg h]
    have : ¬ BitVec.ofNat 32 (i.val / 128) = BitVec.ofNat 32 (j.val / 128) := by
      intro e
      have := congrArg BitVec.toNat e
      rw [BitVec.toNat_ofNat, BitVec.toNat_ofNat, Nat.mod_eq_of_lt (by omega), Nat.mod_eq_of_lt (by omega)] at this
      exact h this
    simp [Scalar.select, IntOp.cmpi, beq_eq_false_iff_ne.mpr this]

/-- The rows of the block. -/
def row (x0 : Vec Ideal S512x1408 .bf16) (r : Fin 512) : Fin 1408 → EReal := fun c => x0 (ix2 r c)

/-- A column of the left half rotates the pair's first group. -/
theorem sum_left (f : Fin 256 → EReal) (j : Fin 128) :
    ∑ x : Fin 256, f x * signH (F := Ideal) (ix2 x ⟨j.val, by omega⟩) = ∑ i : Fin 128, f ⟨i.val, by omega⟩ * ((RotQuant.had 7 i j : ℝ) : EReal) := by
  rw [Fin.sum_univ_two_halves 128 128 rfl]
  rw [Finset.sum_eq_zero (s := Finset.univ) (f := fun k : Fin 128 => f ⟨128 + k.val, _⟩ * _), add_zero]
  · refine Finset.sum_congr rfl fun i _ => ?_
    rw [signH_apply, if_pos (by dsimp only; omega)]
  · intro i _
    rw [signH_apply, if_neg (by dsimp only; omega), mul_zero]

/-- A column of the right half rotates the pair's second group. -/
theorem sum_right (f : Fin 256 → EReal) (j : Fin 128) :
    ∑ x : Fin 256, f x * signH (F := Ideal) (ix2 x ⟨128 + j.val, by omega⟩) = ∑ i : Fin 128, f ⟨128 + i.val, by omega⟩ * ((RotQuant.had 7 i j : ℝ) : EReal) := by
  rw [Fin.sum_univ_two_halves 128 128 rfl]
  rw [Finset.sum_eq_zero (s := Finset.univ) (f := fun k : Fin 128 => f ⟨k.val, _⟩ * _), zero_add]
  · refine Finset.sum_congr rfl fun i _ => ?_
    rw [signH_apply, if_pos (by dsimp only; omega)]
    exact congrArg (fun t : ℝ => _ * (t : EReal)) (RotQuant.had_add 7 1 1 i j)
  · intro i _
    rw [signH_apply, if_neg (by dsimp only; omega), mul_zero]

/-- Group 0 of the block is its columns' rotation. -/
theorem sg0_apply (x0 : Vec Ideal S512x1408 .bf16) (r : Fin 512) (j : Fin 128) :
    sg0 x0 signH (ix2 r j) = RotQuant.rot (RotQuant.group (row x0 r) 0) j := by
  pointwise [sg0, rot2]
  exact (sum_left (fun x => x0 (ix2 r ⟨0 + x.val, by omega⟩)) j).trans (Finset.sum_congr rfl fun i _ => by
    congr 2)

/-- Group 1 of the block is its columns' rotation. -/
theorem sg1_apply (x0 : Vec Ideal S512x1408 .bf16) (r : Fin 512) (j : Fin 128) :
    sg1 x0 signH (ix2 r j) = RotQuant.rot (RotQuant.group (row x0 r) 1) j := by
  pointwise [sg1, rot2]
  exact (sum_right (fun x => x0 (ix2 r ⟨0 + x.val, by omega⟩)) j).trans (Finset.sum_congr rfl fun i _ => by
    exact congrArg (fun k => x0 (ix2 r k) * _) (Fin.ext (show 0 + (128 + i.val) = 128 * 1 + i.val by omega)))

/-- Group 2 of the block is its columns' rotation. -/
theorem sg2_apply (x0 : Vec Ideal S512x1408 .bf16) (r : Fin 512) (j : Fin 128) :
    sg2 x0 signH (ix2 r j) = RotQuant.rot (RotQuant.group (row x0 r) 2) j := by
  pointwise [sg2, rot2]
  exact (sum_left (fun x => x0 (ix2 r ⟨256 + x.val, by omega⟩)) j).trans (Finset.sum_congr rfl fun i _ => by
    congr 2)

/-- Group 3 of the block is its columns' rotation. -/
theorem sg3_apply (x0 : Vec Ideal S512x1408 .bf16) (r : Fin 512) (j : Fin 128) :
    sg3 x0 signH (ix2 r j) = RotQuant.rot (RotQuant.group (row x0 r) 3) j := by
  pointwise [sg3, rot2]
  exact (sum_right (fun x => x0 (ix2 r ⟨256 + x.val, by omega⟩)) j).trans (Finset.sum_congr rfl fun i _ => by
    exact congrArg (fun k => x0 (ix2 r k) * _) (Fin.ext (show 256 + (128 + i.val) = 128 * 3 + i.val by omega)))

/-- Group 4 of the block is its columns' rotation. -/
theorem sg4_apply (x0 : Vec Ideal S512x1408 .bf16) (r : Fin 512) (j : Fin 128) :
    sg4 x0 signH (ix2 r j) = RotQuant.rot (RotQuant.group (row x0 r) 4) j := by
  pointwise [sg4, rot2]
  exact (sum_left (fun x => x0 (ix2 r ⟨512 + x.val, by omega⟩)) j).trans (Finset.sum_congr rfl fun i _ => by
    congr 2)

/-- Group 5 of the block is its columns' rotation. -/
theorem sg5_apply (x0 : Vec Ideal S512x1408 .bf16) (r : Fin 512) (j : Fin 128) :
    sg5 x0 signH (ix2 r j) = RotQuant.rot (RotQuant.group (row x0 r) 5) j := by
  pointwise [sg5, rot2]
  exact (sum_right (fun x => x0 (ix2 r ⟨512 + x.val, by omega⟩)) j).trans (Finset.sum_congr rfl fun i _ => by
    exact congrArg (fun k => x0 (ix2 r k) * _) (Fin.ext (show 512 + (128 + i.val) = 128 * 5 + i.val by omega)))

/-- Group 6 of the block is its columns' rotation. -/
theorem sg6_apply (x0 : Vec Ideal S512x1408 .bf16) (r : Fin 512) (j : Fin 128) :
    sg6 x0 signH (ix2 r j) = RotQuant.rot (RotQuant.group (row x0 r) 6) j := by
  pointwise [sg6, rot2]
  exact (sum_left (fun x => x0 (ix2 r ⟨768 + x.val, by omega⟩)) j).trans (Finset.sum_congr rfl fun i _ => by
    congr 2)

/-- Group 7 of the block is its columns' rotation. -/
theorem sg7_apply (x0 : Vec Ideal S512x1408 .bf16) (r : Fin 512) (j : Fin 128) :
    sg7 x0 signH (ix2 r j) = RotQuant.rot (RotQuant.group (row x0 r) 7) j := by
  pointwise [sg7, rot2]
  exact (sum_right (fun x => x0 (ix2 r ⟨768 + x.val, by omega⟩)) j).trans (Finset.sum_congr rfl fun i _ => by
    exact congrArg (fun k => x0 (ix2 r k) * _) (Fin.ext (show 768 + (128 + i.val) = 128 * 7 + i.val by omega)))

/-- Group 8 of the block is its columns' rotation. -/
theorem sg8_apply (x0 : Vec Ideal S512x1408 .bf16) (r : Fin 512) (j : Fin 128) :
    sg8 x0 signH (ix2 r j) = RotQuant.rot (RotQuant.group (row x0 r) 8) j := by
  pointwise [sg8, rot2]
  exact (sum_left (fun x => x0 (ix2 r ⟨1024 + x.val, by omega⟩)) j).trans (Finset.sum_congr rfl fun i _ => by
    congr 2)

/-- Group 9 of the block is its columns' rotation. -/
theorem sg9_apply (x0 : Vec Ideal S512x1408 .bf16) (r : Fin 512) (j : Fin 128) :
    sg9 x0 signH (ix2 r j) = RotQuant.rot (RotQuant.group (row x0 r) 9) j := by
  pointwise [sg9, rot2]
  exact (sum_right (fun x => x0 (ix2 r ⟨1024 + x.val, by omega⟩)) j).trans (Finset.sum_congr rfl fun i _ => by
    exact congrArg (fun k => x0 (ix2 r k) * _) (Fin.ext (show 1024 + (128 + i.val) = 128 * 9 + i.val by omega)))

/-- Group 10 of the block is its columns' rotation. -/
theorem sg10_apply (x0 : Vec Ideal S512x1408 .bf16) (r : Fin 512) (j : Fin 128) :
    sg10 x0 signH (ix2 r j) = RotQuant.rot (RotQuant.group (row x0 r) 10) j := by
  pointwise [sg10, rot1]
  refine Finset.sum_congr rfl fun i _ => ?_
  rw [signH_apply, if_pos (by dsimp only; omega)]
  rfl

end Cert.KernelIdeal.Blk

end
-- ==== Proof.KIdeal.lean ====
module
public import proofs.«01_k».proof.Proof.KSign

/-! What one program of the kernel leaves, at the extended reals: its codes, its scales and its product, row by row. -/

@[expose] public section

set_option maxRecDepth 16384

noncomputable section

open Idealize.ShloMosaic

namespace Cert.KernelIdeal.Blk

open Cert.KernelIdeal Cert.KernelIdeal.Gen

/-- The rows of a rotated group: row `r` is the rotation of `x r`. -/
def IsRot (s : FVec Ideal S512x128 .f32) (x : Fin 512 → Fin 128 → EReal) : Prop := ∀ r j, s (ix2 r j) = RotQuant.rot (x r) j

/-- The word of minus infinity, over the reals. -/
theorem ofBits_neg_inf : Ideal.ofBits .f32 0xFF800000#32 = ⊥ := by
  simp [Ideal.ofBits, Ideal.ieee]

/-- A row's `v` is the one of its group. -/
theorem gv_apply {s : FVec Ideal S512x128 .f32} {x : Fin 512 → Fin 128 → EReal} (h : IsRot s x) (r : Fin 512) :
    gv s (ix2 r (0 : Fin 1)) = RotQuant.vOf (x r) := by
  pointwise [gv]
  rw [ofBits_neg_inf]
  simp only [h r, Ideal.absf_def]
  rfl

/-- One step of the exponent search, at a row. -/
theorem stp_apply (v : FVec Ideal S512x1 .f32) (e : IVec S512x1 32) (b : BitVec 32) (r : Fin 512) :
    stp v e b (ix2 r (0 : Fin 1)) = RotQuant.step (v (ix2 r (0 : Fin 1))) (e (ix2 r (0 : Fin 1))) b := by
  pointwise [stp]
  rfl

/-- The exponent search, at a row. -/
theorem expo_apply (v : FVec Ideal S512x1 .f32) (r : Fin 512) :
    expo v (ix2 r (0 : Fin 1)) = RotQuant.expo (v (ix2 r (0 : Fin 1))) := by
  unfold expo RotQuant.expo
  simp only [stp_apply]
  rfl

/-- The biased exponent of a row's group. -/
theorem gb_apply {s : FVec Ideal S512x128 .f32} {x : Fin 512 → Fin 128 → EReal} (h : IsRot s x) (r : Fin 512) :
    gb s (ix2 r (0 : Fin 1)) = RotQuant.biased (RotQuant.vOf (x r)) := by
  pointwise [gb]
  rw [gv_apply h, expo_apply, gv_apply h]
  rfl

/-- The scale of a row's group. -/
theorem gscl_apply {s : FVec Ideal S512x128 .f32} {x : Fin 512 → Fin 128 → EReal} (h : IsRot s x) (r : Fin 512) :
    gscl s (ix2 r (0 : Fin 1)) = RotQuant.scl (RotQuant.vOf (x r)) := by
  pointwise [gscl]
  rw [gb_apply h]
  rfl

/-- The inverse scale of a row's group. -/
theorem ginv_apply {s : FVec Ideal S512x128 .f32} {x : Fin 512 → Fin 128 → EReal} (h : IsRot s x) (r : Fin 512) :
    ginv s (ix2 r (0 : Fin 1)) = RotQuant.inv (RotQuant.vOf (x r)) := by
  pointwise [ginv]
  rw [gb_apply h]
  rfl

/-- The codes of a group. -/
theorem gcodes_apply {s : FVec Ideal S512x128 .f32} {x : Fin 512 → Fin 128 → EReal} (h : IsRot s x) (r : Fin 512) (j : Fin 128) :
    gcodes s (ix2 r j) = RotQuant.code (x r) j := by
  pointwise [gcodes]
  rw [h r, ginv_apply h]
  rfl

/-- The codes of a group times its scale. -/
theorem gxa_apply {s : FVec Ideal S512x128 .f32} {x : Fin 512 → Fin 128 → EReal} (h : IsRot s x) (r : Fin 512) (j : Fin 128) :
    gxa s (ix2 r j) = RotQuant.code (x r) j * RotQuant.scl (RotQuant.vOf (x r)) := by
  pointwise [gxa]
  rw [gcodes_apply h, gscl_apply h]

/-- Comparing the lane number with a group's number. -/
theorem lane_cmp : ∀ j g : Fin 11, IntOp.cmpi .eq (BitVec.ofNat 32 j.val) (BitVec.ofNat 32 g.val) = if j = g then 1#1 else 0#1 := by
  decide +kernel

/-- A lane select. -/
theorem gsel_apply (acc : FVec Ideal S512x11 .f32) {s : FVec Ideal S512x128 .f32} {x : Fin 512 → Fin 128 → EReal} (h : IsRot s x) (g : Fin 11)
    (r : Fin 512) (j : Fin 11) :
    gsel acc (BitVec.ofNat 32 g.val) s (ix2 r j) = if j = g then RotQuant.scl (RotQuant.vOf (x r)) else acc (ix2 r j) := by
  have e : gsel acc (BitVec.ofNat 32 g.val) s (ix2 r j)
      = Scalar.select (IntOp.cmpi .eq (BitVec.ofNat 32 j.val) (BitVec.ofNat 32 g.val)) (gscl s (ix2 r (0 : Fin 1))) (acc (ix2 r j)) := by
    pointwise [gsel, glane]
  rw [e, gscl_apply h]
  rw [lane_cmp]
  by_cases hj : j = g
  · rw [if_pos hj, if_pos hj]; rfl
  · rw [if_neg hj, if_neg hj]; rfl

/-- Group 0 as the kernel rotates it is the rotation of that group of the row. -/
theorem sg0_isRot (x0 : Vec Ideal S512x1408 .bf16) : IsRot (sg0 x0 signH) fun r => RotQuant.group (row x0 r) 0 := sg0_apply x0

/-- Group 1 as the kernel rotates it is the rotation of that group of the row. -/
theorem sg1_isRot (x0 : Vec Ideal S512x1408 .bf16) : IsRot (sg1 x0 signH) fun r => RotQuant.group (row x0 r) 1 := sg1_apply x0

/-- Group 2 as the kernel rotates it is the rotation of that group of the row. -/
theorem sg2_isRot (x0 : Vec Ideal S512x1408 .bf16) : IsRot (sg2 x0 signH) fun r => RotQuant.group (row x0 r) 2 := sg2_apply x0

/-- Group 3 as the kernel rotates it is the rotation of that group of the row. -/
theorem sg3_isRot (x0 : Vec Ideal S512x1408 .bf16) : IsRot (sg3 x0 signH) fun r => RotQuant.group (row x0 r) 3 := sg3_apply x0

/-- Group 4 as the kernel rotates it is the rotation of that group of the row. -/
theorem sg4_isRot (x0 : Vec Ideal S512x1408 .bf16) : IsRot (sg4 x0 signH) fun r => RotQuant.group (row x0 r) 4 := sg4_apply x0

/-- Group 5 as the kernel rotates it is the rotation of that group of the row. -/
theorem sg5_isRot (x0 : Vec Ideal S512x1408 .bf16) : IsRot (sg5 x0 signH) fun r => RotQuant.group (row x0 r) 5 := sg5_apply x0

/-- Group 6 as the kernel rotates it is the rotation of that group of the row. -/
theorem sg6_isRot (x0 : Vec Ideal S512x1408 .bf16) : IsRot (sg6 x0 signH) fun r => RotQuant.group (row x0 r) 6 := sg6_apply x0

/-- Group 7 as the kernel rotates it is the rotation of that group of the row. -/
theorem sg7_isRot (x0 : Vec Ideal S512x1408 .bf16) : IsRot (sg7 x0 signH) fun r => RotQuant.group (row x0 r) 7 := sg7_apply x0

/-- Group 8 as the kernel rotates it is the rotation of that group of the row. -/
theorem sg8_isRot (x0 : Vec Ideal S512x1408 .bf16) : IsRot (sg8 x0 signH) fun r => RotQuant.group (row x0 r) 8 := sg8_apply x0

/-- Group 9 as the kernel rotates it is the rotation of that group of the row. -/
theorem sg9_isRot (x0 : Vec Ideal S512x1408 .bf16) : IsRot (sg9 x0 signH) fun r => RotQuant.group (row x0 r) 9 := sg9_apply x0

/-- Group 10 as the kernel rotates it is the rotation of that group of the row. -/
theorem sg10_isRot (x0 : Vec Ideal S512x1408 .bf16) : IsRot (sg10 x0 signH) fun r => RotQuant.group (row x0 r) 10 := sg10_apply x0

/-- The column `j` of group `g`. -/
abbrev col (g : Fin 11) (j : Fin 128) : Fin 1408 := ⟨128 * g.val + j.val, by omega⟩

/-- The group of column `col g j` is `g`. -/
theorem gOf_at (g : Fin 11) (j : Fin 128) : RotQuant.gOf (col g j) = g := Fin.ext (by show (128 * g.val + j.val) / 128 = _; omega)

/-- The code at column `col g j` is code `j` of group `g`. -/
theorem code_at (x : Fin 1408 → EReal) (g : Fin 11) (j : Fin 128) : RotQuant.codeRow x (col g j) = RotQuant.code (RotQuant.group x g) j := by
  unfold RotQuant.codeRow
  rw [gOf_at, show RotQuant.jOf (col g j) = j from Fin.ext (by show (128 * g.val + j.val) % 128 = _; omega)]

/-- The row of an entry of a group's piece of the block. -/
theorem piece_row {o : ℕ} (inb : ∀ a, (![0, o] : Fin S512x1408.rank → ℕ) a + S512x128.size a ≤ S512x1408.size a) (r : Fin 512) (j : Fin 128) :
    (Rect.unit (s := S512x1408) ![0, o] S512x128.size inb).emb (ix2 r j) 0 = r := Fin.ext (by show 0 + 1 * r.val = r.val; omega)

/-- The column of an entry of a group's piece of the block. -/
theorem piece_col {g : Fin 11} (inb : ∀ a, (![0, 128 * g.val] : Fin S512x1408.rank → ℕ) a + S512x128.size a ≤ S512x1408.size a) (r : Fin 512) (j : Fin 128) :
    (Rect.unit (s := S512x1408) ![0, 128 * g.val] S512x128.size inb).emb (ix2 r j) 1 = col g j := Fin.ext (by show 128 * g.val + 1 * j.val = 128 * g.val + j.val; omega)

/-- A store of the codes of group `g` stores the block's codes. -/
theorem codes_piece (x0 : Vec Ideal S512x1408 .bf16) (g : Fin 11) (s : FVec Ideal S512x128 .f32) (h : IsRot s fun r => RotQuant.group (row x0 r) g)
    (inb : ∀ a, (![0, 128 * g.val] : Fin S512x1408.rank → ℕ) a + S512x128.size a ≤ S512x1408.size a) (y : S512x128.Idx) :
    gcodes s y = RotQuant.codeRow (row x0 ((Rect.unit (s := S512x1408) ![0, 128 * g.val] S512x128.size inb).emb y 0)) ((Rect.unit (s := S512x1408) ![0, 128 * g.val] S512x128.size inb).emb y 1) := by
  obtain ⟨r, j, rfl⟩ : ∃ (r : Fin 512) (j : Fin 128), y = ix2 r j := ⟨y 0, y 1, eq_ix2 y⟩
  rw [gcodes_apply h, piece_row inb r j, piece_col inb r j]
  exact (code_at (row x0 r) g j).symm

/-- A store of the scaled codes of group `g` stores the block's scaled codes. -/
theorem xa_piece (x0 : Vec Ideal S512x1408 .bf16) (g : Fin 11) (s : FVec Ideal S512x128 .f32) (h : IsRot s fun r => RotQuant.group (row x0 r) g)
    (inb : ∀ a, (![0, 128 * g.val] : Fin S512x1408.rank → ℕ) a + S512x128.size a ≤ S512x1408.size a) (y : S512x128.Idx) :
    gxa s y = RotQuant.codeRow (row x0 ((Rect.unit (s := S512x1408) ![0, 128 * g.val] S512x128.size inb).emb y 0)) ((Rect.unit (s := S512x1408) ![0, 128 * g.val] S512x128.size inb).emb y 1)
      * RotQuant.sclRow (row x0 ((Rect.unit (s := S512x1408) ![0, 128 * g.val] S512x128.size inb).emb y 0)) (RotQuant.gOf ((Rect.unit (s := S512x1408) ![0, 128 * g.val] S512x128.size inb).emb y 1)) := by
  obtain ⟨r, j, rfl⟩ : ∃ (r : Fin 512) (j : Fin 128), y = ix2 r j := ⟨y 0, y 1, eq_ix2 y⟩
  rw [gxa_apply h, piece_row inb r j, piece_col inb r j, code_at, gOf_at]
  rfl

/-- The codes of the block. -/
theorem codes_apply (x0 : Vec Ideal S512x1408 .bf16) (r : Fin 512) (c : Fin 1408) :
    View.canon (codesL x0 signH) (ix2 r c) = RotQuant.codeRow (row x0 r) c := by
  refine View.canon_apply_of_pieces (fun y : S512x1408.Idx => RotQuant.codeRow (row x0 (y 0)) (y 1)) _ ?_ (ix2 r c) (codesL_cover x0 signH _)
  intro p hp y
  simp only [codesL, List.mem_cons, List.not_mem_nil, or_false] at hp
  rcases hp with rfl | rfl | rfl | rfl | rfl | rfl | rfl | rfl | rfl | rfl | rfl
  · exact codes_piece x0 10 _ (sg10_isRot x0) (inb_S512x1408_S512x128_0_1280) y
  · exact codes_piece x0 9 _ (sg9_isRot x0) (inb_S512x1408_S512x128_0_1152) y
  · exact codes_piece x0 8 _ (sg8_isRot x0) (inb_S512x1408_S512x128_0_1024) y
  · exact codes_piece x0 7 _ (sg7_isRot x0) (inb_S512x1408_S512x128_0_896) y
  · exact codes_piece x0 6 _ (sg6_isRot x0) (inb_S512x1408_S512x128_0_768) y
  · exact codes_piece x0 5 _ (sg5_isRot x0) (inb_S512x1408_S512x128_0_640) y
  · exact codes_piece x0 4 _ (sg4_isRot x0) (inb_S512x1408_S512x128_0_512) y
  · exact codes_piece x0 3 _ (sg3_isRot x0) (inb_S512x1408_S512x128_0_384) y
  · exact codes_piece x0 2 _ (sg2_isRot x0) (inb_S512x1408_S512x128_0_256) y
  · exact codes_piece x0 1 _ (sg1_isRot x0) (inb_S512x1408_S512x128_0_128) y
  · exact codes_piece x0 0 _ (sg0_isRot x0) (inb_S512x1408_S512x128_0_0) y

/-- The scaled codes of the block. -/
theorem xa_apply (x0 : Vec Ideal S512x1408 .bf16) (r : Fin 512) (c : Fin 1408) :
    View.canon (xaL x0 signH) (ix2 r c) = RotQuant.codeRow (row x0 r) c * RotQuant.sclRow (row x0 r) (RotQuant.gOf c) := by
  refine View.canon_apply_of_pieces (fun y : S512x1408.Idx => RotQuant.codeRow (row x0 (y 0)) (y 1) * RotQuant.sclRow (row x0 (y 0)) (RotQuant.gOf (y 1))) _ ?_
    (ix2 r c) (xaL_cover x0 signH _)
  intro p hp y
  simp only [xaL, List.mem_cons, List.not_mem_nil, or_false] at hp
  rcases hp with rfl | rfl | rfl | rfl | rfl | rfl | rfl | rfl | rfl | rfl | rfl
  · exact xa_piece x0 10 _ (sg10_isRot x0) (inb_S512x1408_S512x128_0_1280) y
  · exact xa_piece x0 9 _ (sg9_isRot x0) (inb_S512x1408_S512x128_0_1152) y
  · exact xa_piece x0 8 _ (sg8_isRot x0) (inb_S512x1408_S512x128_0_1024) y
  · exact xa_piece x0 7 _ (sg7_isRot x0) (inb_S512x1408_S512x128_0_896) y
  · exact xa_piece x0 6 _ (sg6_isRot x0) (inb_S512x1408_S512x128_0_768) y
  · exact xa_piece x0 5 _ (sg5_isRot x0) (inb_S512x1408_S512x128_0_640) y
  · exact xa_piece x0 4 _ (sg4_isRot x0) (inb_S512x1408_S512x128_0_512) y
  · exact xa_piece x0 3 _ (sg3_isRot x0) (inb_S512x1408_S512x128_0_384) y
  · exact xa_piece x0 2 _ (sg2_isRot x0) (inb_S512x1408_S512x128_0_256) y
  · exact xa_piece x0 1 _ (sg1_isRot x0) (inb_S512x1408_S512x128_0_128) y
  · exact xa_piece x0 0 _ (sg0_isRot x0) (inb_S512x1408_S512x128_0_0) y

/-- The scales of the block. -/
theorem scale_apply (x0 : Vec Ideal S512x1408 .bf16) (r : Fin 512) (g : Fin 11) :
    scaleB x0 signH (ix2 r g) = RotQuant.sclRow (row x0 r) g := by
  unfold scaleB
  refine (gsel_apply _ (sg10_isRot x0) 10 r g).trans ?_
  split
  · next h => subst h; rfl
  refine (gsel_apply _ (sg9_isRot x0) 9 r g).trans ?_
  split
  · next h => subst h; rfl
  refine (gsel_apply _ (sg8_isRot x0) 8 r g).trans ?_
  split
  · next h => subst h; rfl
  refine (gsel_apply _ (sg7_isRot x0) 7 r g).trans ?_
  split
  · next h => subst h; rfl
  refine (gsel_apply _ (sg6_isRot x0) 6 r g).trans ?_
  split
  · next h => subst h; rfl
  refine (gsel_apply _ (sg5_isRot x0) 5 r g).trans ?_
  split
  · next h => subst h; rfl
  refine (gsel_apply _ (sg4_isRot x0) 4 r g).trans ?_
  split
  · next h => subst h; rfl
  refine (gsel_apply _ (sg3_isRot x0) 3 r g).trans ?_
  split
  · next h => subst h; rfl
  refine (gsel_apply _ (sg2_isRot x0) 2 r g).trans ?_
  split
  · next h => subst h; rfl
  refine (gsel_apply _ (sg1_isRot x0) 1 r g).trans ?_
  split
  · next h => subst h; rfl
  refine (gsel_apply _ (sg0_isRot x0) 0 r g).trans ?_
  split
  · next h => subst h; rfl
  · exfalso; omega

/-- The product of the block. -/
theorem y_apply (x0 : Vec Ideal S512x1408 .bf16) (W : Vec Ideal S1408x2688 .fp8e4m3) (ws : Vec Ideal S1x2688 .f32) (r : Fin 512) (n : Fin 2688) :
    yB x0 signH (k0_pay3 W) ws (ix2 r n) = RotQuant.yEntry (row x0 r) (fun c => W (ix2 c n)) (ws (ix2 (0 : Fin 1) n)) := by
  pointwise [yB, k0_pay2, k0_pay3]
  simp only [xa_apply]
  rfl

end Cert.KernelIdeal.Blk

end
-- ==== Proof.KArrays.lean ====
module
public import proofs.«01_k».proof.Proof.KIdeal
public import proofs.«01_k».proof.Proof.Gen.KernelIdeal.Value

/-! What the kernel's three result arrays hold, as rows of the layer's mathematics over the input. -/

@[expose] public section

set_option maxRecDepth 16384

noncomputable section

open Idealize.ShloMosaic Idealize.ShloMosaic.TcCoe Idealize.SL.Sem

namespace Cert.KernelIdeal.Blk

open Cert.KernelIdeal Cert.KernelIdeal.Gen Cert.KernelIdeal.Value

section AnyF
variable {F : FTy → Type} [FloatOps F]
variable (m : (ℓ : Loc nD τ sig) → Buf (Elt F) ℓ)

/-- The input as rows, in the region. -/
theorem V_v0 (c : Dev nD) : V m c main_v0 = shapeCast S16384x1408 (m ((c : Thread nD τ).loc main_arg0)) shapeCasts_S8x2048x1408_S16384x1408 := by
  unfold V hostOps0
  after_results_simp
  rfl

/-- The column scales as a row, in the region. -/
theorem V_v1 (c : Dev nD) : V m c main_v1 = shapeCast S1x2688 (m ((c : Thread nD τ).loc main_arg2)) shapeCasts_S2688_S1x2688 := by
  unfold V hostOps0
  after_results_simp
  rfl

/-- The weight's block is the weight. -/
theorem iblk1_apply (c : Dev nD) (t : Fin cfg0.N) (k : Fin 1408) (n : Fin 2688) :
    iblk m c 1 t (ix2 k n) = m ((c : Thread nD τ).loc main_arg1) (ix2 k n) := by
  show V m c main_arg1 (((cfg0.win 1).blk t).view.emb (ix2 k n)) = _
  rw [V_main_arg1]
  congr 1
  funext a; apply Fin.ext
  match a with
  | ⟨0, _⟩ => show 0 * 1408 + 1 * k.val = k.val; omega
  | ⟨1, _⟩ => show 0 * 2688 + 1 * n.val = n.val; omega

/-- Every program reads the same weight block. -/
theorem iblk1_const (c : Dev nD) (t t' : Fin cfg0.N) : (iblk m c 1 t : Vec F S1408x2688 .fp8e4m3) = iblk m c 1 t' := by
  funext y
  obtain ⟨k, n, rfl⟩ : ∃ (k : Fin 1408) (n : Fin 2688), y = ix2 k n := ⟨y 0, y 1, eq_ix2 y⟩
  exact (iblk1_apply m c t k n).trans (iblk1_apply m c t' k n).symm

/-- The column scales' block is the column scales. -/
theorem iblk2_apply (c : Dev nD) (t : Fin cfg0.N) (n : Fin 2688) :
    iblk m c 2 t (ix2 (0 : Fin 1) n) = m ((c : Thread nD τ).loc main_arg2) (ix1 n) := by
  show V m c main_v1 (((cfg0.win 2).blk t).view.emb (ix2 (0 : Fin 1) n)) = _
  rw [V_v1, show ((cfg0.win 2).blk t).view.emb (ix2 (0 : Fin 1) n) = ix2 (0 : Fin 1) n from by
    funext a; apply Fin.ext
    match a with
    | ⟨0, _⟩ => rfl
    | ⟨1, _⟩ => show 0 * 2688 + 1 * n.val = n.val; omega]
  pointwise

/-- What every point leaves: its blocks as functions of its input blocks, and the carried weight and sign matrix. -/
theorem outs_eq (c : Dev nD) : ∀ (n : ℕ) (h : n < cfg0.N), outsAt0 m c n h
    = (yB (iblk m c 0 ⟨n, h⟩) signH (k0_pay3 (iblk m c 1 ⟨n, h⟩)) (iblk m c 2 ⟨n, h⟩), View.canon (codesL (iblk m c 0 ⟨n, h⟩) signH),
        scaleB (iblk m c 0 ⟨n, h⟩) signH, k0_pay3 (iblk m c 1 ⟨n, h⟩), signH)
  | 0, h => by
    rw [outsAt0_A m c ⟨0, h⟩ rfl, y_A, codes_A, scale_A, w_A, h_A]
  | n + 1, h => by
    have hN : cfg0.N = 32 := N_0
    have hB : ¬(⟨n + 1, h⟩ : Fin cfg0.N).val % 32 = 0 := by dsimp only; omega
    rw [outsAt0_B m c ⟨n + 1, h⟩ hB, y_B, codes_B, scale_B]
    show (yB _ (outsAt0 m c n _).2.2.2.2 (outsAt0 m c n _).2.2.2.1 _, View.canon (codesL _ (outsAt0 m c n _).2.2.2.2), scaleB _ (outsAt0 m c n _).2.2.2.2,
      (outsAt0 m c n _).2.2.2.1, (outsAt0 m c n _).2.2.2.2) = _
    rw [outs_eq c n]
    dsimp only
    rw [iblk1_const m c ⟨n, Nat.lt_of_succ_lt h⟩ ⟨n + 1, h⟩]

end AnyF

variable (m : (ℓ : Loc nD τ sig) → Buf (Elt Ideal) ℓ)

/-- Row `i` of the input: sequence `i / 2048`, position `i % 2048`. -/
def xrow (x : FVec Ideal S8x2048x1408 .bf16) (i : Fin 16384) : Fin 1408 → EReal :=
  fun k => x (ix3 ⟨i.val / 2048, by omega⟩ ⟨i.val % 2048, by omega⟩ k)

/-- A row of the input reshaped. -/
theorem cast_row (x : FVec Ideal S8x2048x1408 .bf16) (i : Fin 16384) (k : Fin 1408) :
    shapeCast S16384x1408 x shapeCasts_S8x2048x1408_S16384x1408 (ix2 i k) = xrow x i k := by
  refine shapeCast_apply x _ _ _ ?_
  rw [Shape.rowMajor_val_two, Shape.rowMajor_val_three]
  show (i.val / 2048 * 2048 + i.val % 2048) * 1408 + k.val = i.val * 1408 + k.val
  omega

/-- Row `r` of point `t`'s input block is row `512 t + r` of the input. -/
theorem row_iblk (c : Dev nD) (t : Fin cfg0.N) (r : Fin 512) (i : Fin 16384) (hi : i.val = 512 * t.val + r.val) :
    row (iblk m c 0 t) r = xrow (m ((c : Thread nD τ).loc main_arg0)) i := by
  funext k
  have ht : win0_0.index t (0 : Fin 2) = t.val := (by decide +kernel : ∀ t : Fin grid0.N, win0_0.index t (0 : Fin 2) = t.val) t
  show V m c main_v0 (((cfg0.win 0).blk t).view.emb (ix2 r k)) = _
  rw [V_v0, show ((cfg0.win 0).blk t).view.emb (ix2 r k) = ix2 i k from by
    funext a; apply Fin.ext
    match a with
    | ⟨0, _⟩ => show win0_0.index t (0 : Fin 2) * 512 + 1 * r.val = i.val; omega
    | ⟨1, _⟩ => show 0 * 1408 + 1 * k.val = k.val; omega]
  exact cast_row _ i k

/-- The first result: the product. -/
theorem G3_apply (c : Dev nD) (i : Fin 16384) (n : Fin 2688) :
    G3 m c (ix2 i n) = RotQuant.yEntry (xrow (m ((c : Thread nD τ).loc main_arg0)) i) (fun k => m ((c : Thread nD τ).loc main_arg1) (ix2 k n))
      (m ((c : Thread nD τ).loc main_arg2) (ix1 n)) := by
  have hN : cfg0.N = 32 := N_0
  have hp : pt3Of (ix2 i n) = i.val / 512 := by
    show 1 * (i.val / 512 - 0) + 1 * (n.val / 2688 - 0) = _; omega
  have hl : loc3Of (ix2 i n) = ix2 (⟨i.val % 512, by omega⟩ : Fin 512) n := by
    funext a; apply Fin.ext
    match a with
    | ⟨0, _⟩ => rfl
    | ⟨1, _⟩ => show n.val % 2688 = n.val; omega
  have ht : i.val / 512 < cfg0.N := by omega
  unfold G3
  rw [dif_pos (by omega), hl, fold0_congr m c _ _ (i.val / 512) (by omega) hp, ← outsAt0_sweep m c _ ht, outs_eq]
  dsimp only
  rw [y_apply, row_iblk m c _ _ i (by dsimp only; omega)]
  simp only [iblk1_apply, iblk2_apply]

/-- The second result: the codes. -/
theorem G4_apply (c : Dev nD) (i : Fin 16384) (k : Fin 1408) :
    G4 m c (ix2 i k) = RotQuant.codeRow (xrow (m ((c : Thread nD τ).loc main_arg0)) i) k := by
  have hN : cfg0.N = 32 := N_0
  have hp : pt4Of (ix2 i k) = i.val / 512 := by
    show 1 * (i.val / 512 - 0) + 1 * (k.val / 1408 - 0) = _; omega
  have hl : loc4Of (ix2 i k) = ix2 (⟨i.val % 512, by omega⟩ : Fin 512) k := by
    funext a; apply Fin.ext
    match a with
    | ⟨0, _⟩ => rfl
    | ⟨1, _⟩ => show k.val % 1408 = k.val; omega
  have ht : i.val / 512 < cfg0.N := by omega
  unfold G4
  rw [dif_pos (by omega), hl, fold0_congr m c _ _ (i.val / 512) (by omega) hp, ← outsAt0_sweep m c _ ht, outs_eq]
  dsimp only
  rw [codes_apply, row_iblk m c _ _ i (by dsimp only; omega)]

/-- The third result: the scales. -/
theorem G5_apply (c : Dev nD) (i : Fin 16384) (g : Fin 11) :
    G5 m c (ix2 i g) = RotQuant.sclRow (xrow (m ((c : Thread nD τ).loc main_arg0)) i) g := by
  have hN : cfg0.N = 32 := N_0
  have hp : pt5Of (ix2 i g) = i.val / 512 := by
    show 1 * (i.val / 512 - 0) + 1 * (g.val / 11 - 0) = _; omega
  have hl : loc5Of (ix2 i g) = ix2 (⟨i.val % 512, by omega⟩ : Fin 512) g := by
    funext a; apply Fin.ext
    match a with
    | ⟨0, _⟩ => rfl
    | ⟨1, _⟩ => show g.val % 11 = g.val; omega
  have ht : i.val / 512 < cfg0.N := by omega
  unfold G5
  rw [dif_pos (by omega), hl, fold0_congr m c _ _ (i.val / 512) (by omega) hp, ← outsAt0_sweep m c _ ht, outs_eq]
  dsimp only
  rw [scale_apply, row_iblk m c _ _ i (by dsimp only; omega)]

end Cert.KernelIdeal.Blk

end
-- ==== Proof.RValue.lean ====
module
public import proofs.«01_k».proof.Proof.PRead
public import proofs.«01_k».proof.Proof.KArrays

/-! What the reference's three result arrays hold, as rows of the layer's mathematics over the input, where the condition
holds. -/

@[expose] public section

set_option maxRecDepth 16384

noncomputable section

open Idealize.ShloMosaic Idealize.ShloMosaic.TcCoe Idealize.SL.Sem RotQuant

namespace Cert.ReferenceIdeal.Host

open Cert.ReferenceIdeal Cert.ReferenceIdeal.Gen Cert.ReferenceIdeal.Value Cert.KernelIdeal.Blk

/-- The reference's groups are the rows' groups. -/
theorem grp_apply (x : FVec Ideal S8x2048x1408 .bf16) (i : Fin 16384) (k : Fin 11) (l : Fin 128) :
    grp (F := Ideal) x (ix3 i k l) = group (xrow x i) k l := by
  refine (shapeCast_apply _ _ _ (ix3 (⟨i.val / 2048, by omega⟩ : Fin 8) (⟨i.val % 2048, by omega⟩ : Fin 2048) (⟨128 * k.val + l.val, by omega⟩ : Fin 1408)) ?_).trans rfl
  rw [Shape.rowMajor_val_three, Shape.rowMajor_val_three]
  show (i.val / 2048 * 2048 + i.val % 2048) * 1408 + (128 * k.val + l.val) = (i.val * 11 + k.val) * 128 + l.val
  omega

/-- The rotated groups. -/
theorem rotR_apply (x : FVec Ideal S8x2048x1408 .bf16) (i : Fin 16384) (k : Fin 11) (j : Fin 128) :
    rotR (F := Ideal) x (ix3 i k j) = rot (group (xrow x i) k) j * norm := by
  unfold rotR
  rw [mulH_apply, ← rot_norm]
  exact Finset.sum_congr rfl fun l _ => by rw [grp_apply, hadN_apply]

/-- The largest magnitudes of anything that reads as the rotated groups. -/
theorem amaxR_rot (r : FVec Ideal S16384x11x128 .f32) (x : Fin 128 → EReal) (i : Fin 16384) (k : Fin 11)
    (h : ∀ j : Fin 128, r (ix3 i k j) = rot x j * norm) : amaxR (F := Ideal) r (ix2 i k) = amax x * norm := by
  rw [amaxR_apply, ← amax_norm]
  congr 1
  funext j
  rw [h]

/-- The exponent of a group of the input. -/
theorem expR_apply (x : FVec Ideal S8x2048x1408 .bf16) (i : Fin 16384) (k : Fin 11) :
    expR (F := Ideal) x (ix2 i k) = ex (vOf (group (xrow x i) k)) := by
  unfold expR
  rw [eR_apply, amaxR_rot _ _ i k (rotR_apply x i k)]
  rfl

/-- A group's largest magnitude over 448. -/
theorem vR_apply (a : FVec Ideal S16384x11 .f32) (i : Fin 16384) (k : Fin 11) : vR (F := Ideal) a (ix2 i k) = a (ix2 i k) * c448 := by
  pointwise [vR]
  rfl

/-- The negated exponent. -/
theorem negR_apply (e : FVec Ideal S16384x11 .f32) (i : Fin 16384) (k : Fin 11) : Host.negf e (ix2 i k) = -(e (ix2 i k)) := by
  pointwise

/-- The condition's own rotated groups, products summed over an axis, are the rotated groups. -/
theorem psum_rot (x : FVec Ideal S8x2048x1408 .bf16) (h1 h2 h3 h4 h5 h6) (i : Fin 16384) (k : Fin 11) (j : Fin 128) :
    psum (grp (F := Ideal) x) (hadN (F := Ideal)) h1 h2 h3 h4 h5 h6 (ix3 i k j) = rot (group (xrow x i) k) j * norm := by
  rw [psum_apply, ← rot_norm]
  exact Finset.sum_congr rfl fun l _ => by rw [grp_apply, hadN_apply]

/-- Of a rotated group, the largest magnitude over 448 is `vOf`. -/
theorem vR_rot (r : FVec Ideal S16384x11x128 .f32) (x : Fin 128 → EReal) (i : Fin 16384) (k : Fin 11)
    (h : ∀ j : Fin 128, r (ix3 i k j) = rot x j * norm) : vR (F := Ideal) (amaxR (F := Ideal) r) (ix2 i k) = vOf x := by
  rw [vR_apply, amaxR_rot r x i k h, vOf]

/-- Where the test holds of rotated groups, each group's magnitude is as it asks. -/
theorem test_rot (r : FVec Ideal S16384x11x128 .f32) (x : Fin 128 → EReal) (i : Fin 16384) (k : Fin 11)
    (h : ∀ j : Fin 128, r (ix3 i k j) = rot x j * norm) (ht : test (vR (F := Ideal) (amaxR (F := Ideal) r)) = fun _ => 1#1) : Normal (vOf x) := by
  rw [← vR_rot r x i k h]
  exact test_apply _ i k (congrFun ht (ix2 i k))

/-- The condition at one group. -/
theorem normal_of (x : FVec Ideal S8x2048x1408 .bf16) (w : FVec Ideal S1408x2688 .fp8e4m3) (ws : FVec Ideal S2688 .f32)
    (h : @Cert.Pre_scales_are_normal.fn Cert.Pre_scales_are_normal.facts Ideal _ x w ws = fun _ => 1#1) (i : Fin 16384) (k : Fin 11) :
    Normal (vOf (group (xrow x i) k)) :=
  test_rot _ _ i k (psum_rot x _ _ _ _ _ _ i k) ((fn_eq x w ws).symm.trans h)

/-- The scales. -/
theorem scaleR_apply (x : FVec Ideal S8x2048x1408 .bf16) (i : Fin 16384) (k : Fin 11) (h : Normal (vOf (group (xrow x i) k))) :
    scaleR (F := Ideal) x (ix2 i k) = sclRow (xrow x i) k := by
  unfold scaleR
  rw [sclR_apply, expR_apply]
  exact (scl_inv_eq h).1.symm

/-- The codes. -/
theorem codesR_apply (x : FVec Ideal S8x2048x1408 .bf16) (i : Fin 16384) (c : Fin 1408) (h : Normal (vOf (group (xrow x i) (gOf c)))) :
    codesR (F := Ideal) x (ix2 i c) = codeRow (xrow x i) c := by
  unfold codesR
  rw [flat_apply, clipR_apply, rotR_apply, sclR_apply, negR_apply, expR_apply, ← (scl_inv_eq h).2]
  rfl

/-- The result's entry from the call's operands. -/
theorem pay2_apply (a b : Vec Ideal S16384x1408 .f32) (w : Vec Ideal S1408x2688 .fp8e4m3) (s : Vec Ideal S1x2688 .f32) (i : Fin 16384) (n : Fin 2688) :
    k0_pay2 a b w s (ix2 i n) = (∑ c : Fin 1408, a (ix2 i c) * b (ix2 i c) * w (ix2 c n)) * s (ix2 (0 : Fin 1) n) := by
  pointwise [k0_pay2, k0_pay1]

/-- The call's second result is its first operand, cast. -/
theorem pay1_apply (a : Vec Ideal S16384x1408 .f32) (i : Fin 16384) (n : Fin 1408) : k0_pay1 a (ix2 i n) = a (ix2 i n) := by
  pointwise [k0_pay1]

end Cert.ReferenceIdeal.Host
end
-- ==== Proof.RArrays.lean ====
module
public import proofs.«01_k».proof.Proof.RValue

/-! The reference's run, with its three results named entry by entry. -/

@[expose] public section

set_option maxRecDepth 16384

noncomputable section

open Idealize.ShloMosaic Idealize.ShloMosaic.TcCoe Idealize.SL.Sem RotQuant

namespace Cert.ReferenceIdeal.Host

open Cert.ReferenceIdeal Cert.ReferenceIdeal.Gen Cert.ReferenceIdeal.Value Cert.KernelIdeal.Blk

section AnyF
variable {F : FTy → Type} [FloatOps F]
variable (m : (ℓ : Loc nD τ sig) → Buf (Elt F) ℓ)

/-- The offsets of a whole-array access are zero. -/
theorem hz2 : (![0, 0] : Fin 2 → ℕ) = fun _ => 0 := by
  funext a; match a with | ⟨0, _⟩ => rfl | ⟨1, _⟩ => rfl

/-- What the call leaves as its first result. -/
theorem out4_eq (x0 x1 : Vec F S16384x1408 .f32) (x2 : Vec F S1408x2688 .fp8e4m3) (x3 : Vec F S1x2688 .f32) :
    out0_4 x0 x1 x2 x3 = k0_pay2 x0 x1 x2 x3 := by
  unfold out0_4
  rw [View.canon_unit_zero (S := S16384x2688) hz2, View.ld_unit_zero (S := S16384x1408) hz2, View.ld_unit_zero (S := S16384x1408) hz2,
    View.ld_unit_zero (S := S1408x2688) hz2, View.ld_unit_zero (S := S1x2688) hz2]

/-- What the call leaves as its second result. -/
theorem out5_eq (x0 x1 : Vec F S16384x1408 .f32) (x2 : Vec F S1408x2688 .fp8e4m3) (x3 : Vec F S1x2688 .f32) :
    out0_5 x0 x1 x2 x3 = k0_pay1 x0 := by
  unfold out0_5
  rw [View.canon_unit_zero (S := S16384x1408) hz2, View.ld_unit_zero (S := S16384x1408) hz2]

/-- The one point. -/
def t0 : Fin cfg0.N := ⟨0, by decide⟩

/-- The call reads the clipped values whole. -/
theorem iblk0_apply (c : Dev nD) (i : Fin 16384) (k : Fin 1408) : iblk m c 0 t0 (ix2 i k) = V m c main_v38 (ix2 i k) := by
  show V m c main_v38 (((cfg0.win 0).blk t0).view.emb (ix2 i k)) = _
  congr 1
  funext a; apply Fin.ext
  match a with
  | ⟨0, _⟩ => show 0 * 16384 + 1 * i.val = i.val; omega
  | ⟨1, _⟩ => show 0 * 1408 + 1 * k.val = k.val; omega

/-- The call reads the spread scales whole. -/
theorem iblk1_apply (c : Dev nD) (i : Fin 16384) (k : Fin 1408) : iblk m c 1 t0 (ix2 i k) = V m c main_v41 (ix2 i k) := by
  show V m c main_v41 (((cfg0.win 1).blk t0).view.emb (ix2 i k)) = _
  congr 1
  funext a; apply Fin.ext
  match a with
  | ⟨0, _⟩ => show 0 * 16384 + 1 * i.val = i.val; omega
  | ⟨1, _⟩ => show 0 * 1408 + 1 * k.val = k.val; omega

/-- The call reads the weight whole. -/
theorem iblk2_apply (c : Dev nD) (k : Fin 1408) (n : Fin 2688) : iblk m c 2 t0 (ix2 k n) = m ((c : Thread nD τ).loc main_arg1) (ix2 k n) := by
  show V m c main_arg1 (((cfg0.win 2).blk t0).view.emb (ix2 k n)) = _
  rw [V_main_arg1]
  congr 1
  funext a; apply Fin.ext
  match a with
  | ⟨0, _⟩ => show 0 * 1408 + 1 * k.val = k.val; omega
  | ⟨1, _⟩ => show 0 * 2688 + 1 * n.val = n.val; omega

/-- The call reads the column scales whole. -/
theorem iblk3_apply (c : Dev nD) (n : Fin 2688) : iblk m c 3 t0 (ix2 (0 : Fin 1) n) = V m c main_v42 (ix2 (0 : Fin 1) n) := by
  show V m c main_v42 (((cfg0.win 3).blk t0).view.emb (ix2 (0 : Fin 1) n)) = _
  congr 1
  funext a; apply Fin.ext
  match a with
  | ⟨0, _⟩ => rfl
  | ⟨1, _⟩ => show 0 * 2688 + 1 * n.val = n.val; omega

/-- The first result's block has no edge to cut. -/
theorem cut4_apply (p : Vec F S16384x2688 .bf16) (i : Fin 16384) (n : Fin 2688) : (cfg0.win 4).cut (grid0.coords t0) p (ix2 i n) = p (ix2 i n) := rfl

/-- The first result's block is the whole array. -/
theorem read4_apply (A : Vec F S16384x2688 .bf16) (i : Fin 16384) (n : Fin 2688) :
    ((cfg0.win 4).blk t0).view.read (Elt F) A (ix2 i n) = A (ix2 i n) := by
  show A (((cfg0.win 4).blk t0).view.emb (ix2 i n)) = _
  congr 1
  funext a; apply Fin.ext
  match a with
  | ⟨0, _⟩ => show 0 * 16384 + 1 * i.val = i.val; omega
  | ⟨1, _⟩ => show 0 * 2688 + 1 * n.val = n.val; omega

/-- The first result's array after the call. -/
theorem arr4_apply (c : Dev nD) (i : Fin 16384) (n : Fin 2688) :
    (dats m 0 c).arrAt 4 cfg0.N (ix2 i n) = k0_pay2 (iblk m c 0 t0) (iblk m c 1 t0) (iblk m c 2 t0) (iblk m c 3 t0) (ix2 i n) := by
  have h := congrFun (blocks4 m c t0 (by decide)) (ix2 i n)
  rw [flushed4, out4_eq] at h
  exact (read4_apply _ i n).symm.trans (h.trans (cut4_apply _ i n))

/-- The second result's block has no edge to cut. -/
theorem cut5_apply (p : Vec F S16384x1408 .fp8e4m3) (i : Fin 16384) (n : Fin 1408) : (cfg0.win 5).cut (grid0.coords t0) p (ix2 i n) = p (ix2 i n) := rfl

/-- The second result's block is the whole array. -/
theorem read5_apply (A : Vec F S16384x1408 .fp8e4m3) (i : Fin 16384) (n : Fin 1408) :
    ((cfg0.win 5).blk t0).view.read (Elt F) A (ix2 i n) = A (ix2 i n) := by
  show A (((cfg0.win 5).blk t0).view.emb (ix2 i n)) = _
  congr 1
  funext a; apply Fin.ext
  match a with
  | ⟨0, _⟩ => show 0 * 16384 + 1 * i.val = i.val; omega
  | ⟨1, _⟩ => show 0 * 1408 + 1 * n.val = n.val; omega

/-- The second result's array after the call. -/
theorem arr5_apply (c : Dev nD) (i : Fin 16384) (n : Fin 1408) :
    (dats m 0 c).arrAt 5 cfg0.N (ix2 i n) = k0_pay1 (iblk m c 0 t0) (ix2 i n) := by
  have h := congrFun (blocks5 m c t0 (by decide)) (ix2 i n)
  rw [flushed5, out5_eq] at h
  exact (read5_apply _ i n).symm.trans (h.trans (cut5_apply _ i n))

end AnyF

/-- The column scales as a single row. -/
theorem row_cast (s : Vec Ideal S2688 .f32) (n : Fin 2688) : shapeCast S1x2688 s shapeCasts_S2688_S1x2688 (ix2 (0 : Fin 1) n) = s (ix1 n) := by
  pointwise

variable (m : (ℓ : Loc nD τ sig) → Buf (Elt Ideal) ℓ) (ρ : Dev nD → PrngReg)

/-- The condition of the argument arrays. -/
def Ok : Prop := ∀ c : Dev nD, @Cert.Pre_scales_are_normal.fn Cert.Pre_scales_are_normal.facts Ideal _ (m ((c : Thread nD τ).loc main_arg0))
  (m ((c : Thread nD τ).loc main_arg1)) (m ((c : Thread nD τ).loc main_arg2)) = fun _ => 1#1

variable {m}

/-- The third result: the scales. -/
theorem scale_entry (h : Ok m) (c : Dev nD) (i : Fin 16384) (k : Fin 11) :
    V m c main_v30 (ix2 i k) = sclRow (xrow (m ((c : Thread nD τ).loc main_arg0)) i) k := by
  rw [V_v30]
  exact scaleR_apply _ i k (normal_of _ _ _ (h c) i k)

/-- The second result: the codes. -/
theorem codes_entry (h : Ok m) (c : Dev nD) (i : Fin 16384) (k : Fin 1408) :
    (dats m 0 c).arrAt 5 cfg0.N (ix2 i k) = codeRow (xrow (m ((c : Thread nD τ).loc main_arg0)) i) k := by
  rw [arr5_apply, pay1_apply, iblk0_apply, V_v38]
  exact codesR_apply _ i k (normal_of _ _ _ (h c) i _)

/-- The first result: the product. -/
theorem y_entry (h : Ok m) (c : Dev nD) (i : Fin 16384) (n : Fin 2688) :
    (dats m 0 c).arrAt 4 cfg0.N (ix2 i n) = yEntry (xrow (m ((c : Thread nD τ).loc main_arg0)) i) (fun k => m ((c : Thread nD τ).loc main_arg1) (ix2 k n))
      (m ((c : Thread nD τ).loc main_arg2) (ix1 n)) := by
  rw [arr4_apply, pay2_apply, iblk3_apply, V_v42, row_cast, yEntry]
  refine congrArg (· * _) (Finset.sum_congr rfl fun k _ => ?_)
  rw [iblk0_apply, iblk1_apply, iblk2_apply, V_v38, V_v41, flat_apply, spread_apply,
    codesR_apply _ i k (normal_of _ _ _ (h c) i _), scaleR_apply _ i _ (normal_of _ _ _ (h c) i _)]

/-- After the run the third result is what the host computed before the call. -/
theorem post30 (r : PUnit × MemSt nD τ sig (Elt Ideal)) (h : Pipeline.FramePost cfgs (dats m) 0 (V m) r) (c : Dev nD) :
    r.2.mem ((c : Thread nD τ).loc main_v30) = V m c main_v30 :=
  (h c).2 main_v30 (Pipeline.mem_restRefs_of main_v30 (by decide) (by decide))

/-- The run with all three results named and the arguments kept. -/
theorem run3 : θ_run defs (onTc (τ := τ) (main (F := Ideal))) ⟨m, fun _ => 0, ρ⟩ fun r => ∀ c : Dev nD,
      r.2.mem ((c : Thread nD τ).loc main_v43_0) = (dats m 0 c).arrAt 4 cfg0.N
      ∧ r.2.mem ((c : Thread nD τ).loc main_v43_1) = (dats m 0 c).arrAt 5 cfg0.N
      ∧ r.2.mem ((c : Thread nD τ).loc main_v30) = V m c main_v30
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post4 m r h c, post5 m r h c, post30 r h c, kept_main_arg0 m r h c, kept_main_arg1 m r h c, kept_main_arg2 m r h c⟩)
    (run_main m ρ)

end Cert.ReferenceIdeal.Host
end
-- ==== Proof.Equal.lean ====
module
public import proofs.«01_k».proof.Proof.RArrays

/-! The equation: with equal arguments that meet the condition, the kernel's three result arrays are the reference's. -/

@[expose] public section

noncomputable section

open Idealize.ShloMosaic Idealize.ShloMosaic.TcCoe Idealize.SL.Sem

namespace Cert.Equal

open Cert.KernelIdeal.Blk Cert.ReferenceIdeal.Host

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The two memories hold the same arguments. -/
def Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

/-- The products agree. -/
theorem y_eq (h : Same m m') (hp : Ok m') (c : Dev Cert.KernelIdeal.nD) :
    (Cert.ReferenceIdeal.Gen.dats m' 0 c).arrAt 4 Cert.ReferenceIdeal.cfg0.N = Cert.KernelIdeal.Value.G3 m c := by
  obtain ⟨h0, h1, h2⟩ := h c
  funext y
  obtain ⟨i, n, rfl⟩ : ∃ (i : Fin 16384) (n : Fin 2688), y = ix2 i n := ⟨y 0, y 1, eq_ix2 y⟩
  refine (y_entry hp c i n).trans ?_
  rw [h0, h1, h2]
  exact (G3_apply m c i n).symm

/-- The codes agree. -/
theorem codes_eq (h : Same m m') (hp : Ok m') (c : Dev Cert.KernelIdeal.nD) :
    (Cert.ReferenceIdeal.Gen.dats m' 0 c).arrAt 5 Cert.ReferenceIdeal.cfg0.N = Cert.KernelIdeal.Value.G4 m c := by
  obtain ⟨h0, h1, h2⟩ := h c
  funext y
  obtain ⟨i, n, rfl⟩ : ∃ (i : Fin 16384) (n : Fin 1408), y = ix2 i n := ⟨y 0, y 1, eq_ix2 y⟩
  refine (codes_entry hp c i n).trans ?_
  rw [h0]
  exact (G4_apply m c i n).symm

/-- The scales agree. -/
theorem scale_eq (h : Same m m') (hp : Ok m') (c : Dev Cert.KernelIdeal.nD) :
    Cert.ReferenceIdeal.Gen.V m' c Cert.ReferenceIdeal.main_v30 = Cert.KernelIdeal.Value.G5 m c := by
  obtain ⟨h0, h1, h2⟩ := h c
  funext y
  obtain ⟨i, n, rfl⟩ : ∃ (i : Fin 16384) (n : Fin 11), y = ix2 i n := ⟨y 0, y 1, eq_ix2 y⟩
  refine (scale_entry hp c i n).trans ?_
  rw [h0]
  exact (G5_apply m c i n).symm

end Cert.Equal
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Equal

/-! The certificate: the programs run and keep their arguments, and over the reals the kernel's results are the reference's. -/

@[expose] public section

noncomputable section

namespace Cert.Proof

open Idealize.ShloMosaic Idealize.ShloMosaic.TcCoe Idealize.SL.Sem

/-- The condition, of the kernel's arguments, is the condition of the reference's where the arguments are the same. -/
theorem ok_of {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (hp : @Pre_KernelIdeal_scales_are_normal Cert.Pre_scales_are_normal.facts m) (h : Cert.Equal.Same m m') : Cert.ReferenceIdeal.Host.Ok m' := by
  intro c
  obtain ⟨h0, h1, h2⟩ := h c
  have e := hp c
  rw [← h0, ← h1, ← h2] at e
  exact e

/-- Over the reals the kernel's three results are the reference's. -/
theorem algebraic : @algebraic_KernelIdeal_ReferenceIdeal_pre_scales_are_normal Cert.KernelIdeal.Gen.facts Cert.ReferenceIdeal.Gen.facts
    Cert.Pre_scales_are_normal.facts := by
  intro m g m' g' hp h
  have hok := ok_of hp h
  refine ⟨fun c => Cert.KernelIdeal.Value.G3 m c, fun c => Cert.KernelIdeal.Value.G4 m c, fun c => Cert.KernelIdeal.Value.G5 m c,
    Cert.KernelIdeal.Value.run m g, ?_⟩
  refine (θ_run _ _ _).mono (fun r hr c => ?_) (Cert.ReferenceIdeal.Host.run3 (m := m') g')
  obtain ⟨r0, r1, r2, ra⟩ := hr c
  exact ⟨r0.trans (Cert.Equal.y_eq h hok c), r1.trans (Cert.Equal.codes_eq h hok c), r2.trans (Cert.Equal.scale_eq h hok c), ra⟩

/-- All the claims together. -/
theorem claim : Cert.Claim :=
  ⟨Cert.Kernel.Gen.facts, Cert.KernelIdeal.Gen.facts, Cert.ReferenceIdeal.Gen.facts, Cert.Pre_scales_are_normal.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
